-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x7168 : Shape := ⟨2, ![4096, 7168]⟩
abbrev S32x56 : Shape := ⟨2, ![32, 56]⟩
abbrev S512x7168 : Shape := ⟨2, ![512, 7168]⟩
abbrev S512x128 : Shape := ⟨2, ![512, 128]⟩
abbrev S512 : Shape := ⟨1, ![512]⟩
abbrev S512x1 : Shape := ⟨2, ![512, 1]⟩
abbrev S4096x4096 : Shape := ⟨2, ![4096, 4096]⟩
abbrev S1024x7168 : Shape := ⟨2, ![1024, 7168]⟩
abbrev S1024x1024 : Shape := ⟨2, ![1024, 1024]⟩
abbrev S2x1024x1024 : Shape := ⟨3, ![2, 1024, 1024]⟩
abbrev S128x128 : Shape := ⟨2, ![128, 128]⟩
abbrev S1x1 : Shape := ⟨2, ![1, 1]⟩
abbrev S1x128x128 : Shape := ⟨3, ![1, 128, 128]⟩
abbrev S1x1024x1024 : Shape := ⟨3, ![1, 1024, 1024]⟩

abbrev nBuf : Space → Nat
  | .hbm => 6
  | .vmem => 11
  | .smem => 1
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S32x56, .f32⟩
  | .hbm, ⟨3, _⟩ => ⟨S4096x7168, .bf16⟩
  | .hbm, ⟨4, _⟩ => ⟨S4096x7168, .fp8e4m3⟩
  | .hbm, ⟨5, _⟩ => ⟨S4096x4096, .bf16⟩
  | .local _ .vmem, ⟨0, _⟩ => ⟨S512x7168, .bf16⟩
  | .local _ .vmem, ⟨1, _⟩ => ⟨S512x7168, .bf16⟩
  | .local _ .vmem, ⟨2, _⟩ => ⟨S512x7168, .bf16⟩
  | .local _ .vmem, ⟨3, _⟩ => ⟨S512x7168, .bf16⟩
  | .local _ .vmem, ⟨4, _⟩ => ⟨S1024x7168, .bf16⟩
  | .local _ .vmem, ⟨5, _⟩ => ⟨S1024x7168, .bf16⟩
  | .local _ .vmem, ⟨6, _⟩ => ⟨S1024x7168, .fp8e4m3⟩
  | .local _ .vmem, ⟨7, _⟩ => ⟨S1024x7168, .fp8e4m3⟩
  | .local _ .vmem, ⟨8, _⟩ => ⟨S1024x1024, .bf16⟩
  | .local _ .vmem, ⟨9, _⟩ => ⟨S1024x1024, .bf16⟩
  | .local _ .vmem, ⟨10, _⟩ => ⟨S2x1024x1024, .bf16⟩
  | .local _ .smem, ⟨0, _⟩ => ⟨S32x56, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def k1_off1 (i : grid1.Coords) (c0_i32 : BitVec 32) : Fin 2 → Nat :=
  let arg1 : BitVec 32 := BitVec.ofNat 32 (i 1).val
  let c8_i32 : BitVec 32 := 8#32
  let v0 : BitVec 32 := Scalar.muli arg1 c8_i32
  let v4 : BitVec 32 := Scalar.addi v0 c0_i32
  let v5 : Index := Scalar.indexCast v4
  let c0_1 : Index := 0#32
  ![v5.toNat, 0]
def k1_off2 (i : grid1.Coords) (c0_i32_6 : BitVec 32) : Fin 2 → Nat :=
  let arg1 : BitVec 32 := BitVec.ofNat 32 (i 1).val
  let c8_i32 : BitVec 32 := 8#32
  let v0 : BitVec 32 := Scalar.muli arg1 c8_i32
  let v16 : BitVec 32 := Scalar.addi v0 c0_i32_6
  let v17 : Index := Scalar.indexCast v16
  let c1 : Index := 1#32
  ![v17.toNat, 1]
def k1_off3 (i : grid1.Coords) (c0_i32_11 : BitVec 32) : Fin 2 → Nat :=
  let arg1 : BitVec 32 := BitVec.ofNat 32 (i 1).val
  let c8_i32 : BitVec 32 := 8#32
  let v0 : BitVec 32 := Scalar.muli arg1 c8_i32
  let v28 : BitVec 32 := Scalar.addi v0 c0_i32_11
  let v29 : Index := Scalar.indexCast v28
  let c2 : Index := 2#32
  ![v29.toNat, 2]
def k1_off4 (i : grid1.Coords) (c0_i32_16 : BitVec 32) : Fin 2 → Nat :=
  let arg1 : BitVec 32 := BitVec.ofNat 32 (i 1).val
  let c8_i32 : BitVec 32 := 8#32
  let v0 : BitVec 32 := Scalar.muli arg1 c8_i32
  let v40 : BitVec 32 := Scalar.addi v0 c0_i32_16
  let v41 : Index := Scalar.indexCast v40
  let c3 : Index := 3#32
  ![v41.toNat, 3]
def k1_off5 (i : grid1.Coords) (c0_i32_21 : BitVec 32) : Fin 2 → Nat :=
  let arg1 : BitVec 32 := BitVec.ofNat 32 (i 1).val
  let c8_i32 : BitVec 32 := 8#32
  let v0 : BitVec 32 := Scalar.muli arg1 c8_i32
  let v52 : BitVec 32 := Scalar.addi v0 c0_i32_21
  let v53 : Index := Scalar.indexCast v52
  let c4 : Index := 4#32
  ![v53.toNat, 4]
def k1_off6 (i : grid1.Coords) (c0_i32_26 : BitVec 32) : Fin 2 → Nat :=
  let arg1 : BitVec 32 := BitVec.ofNat 32 (i 1).val
  let c8_i32 : BitVec 32 := 8#32
  let v0 : BitVec 32 := Scalar.muli arg1 c8_i32
  let v64 : BitVec 32 := Scalar.addi v0 c0_i32_26
  let v65 : Index := Scalar.indexCast v64
  let c5 : Index := 5#32
  ![v65.toNat, 5]
def k1_off7 (i : grid1.Coords) (c0_i32_31 : BitVec 32) : Fin 2 → Nat :=
  let arg1 : BitVec 32 := BitVec.ofNat 32 (i 1).val
  let c8_i32 : BitVec 32 := 8#32
  let v0 : BitVec 32 := Scalar.muli arg1 c8_i32
  let v76 : BitVec 32 := Scalar.addi v0 c0_i32_31
  let v77 : Index := Scalar.indexCast v76
  let c6 : Index := 6#32
  ![v77.toNat, 6]
def k1_off8 (i : grid1.Coords) (c0_i32_36 : BitVec 32) : Fin 2 → Nat :=
  let arg1 : BitVec 32 := BitVec.ofNat 32 (i 1).val
  let c8_i32 : BitVec 32 := 8#32
  let v0 : BitVec 32 := Scalar.muli arg1 c8_i32
  let v88 : BitVec 32 := Scalar.addi v0 c0_i32_36
  let v89 : Index := Scalar.indexCast v88
  let c7 : Index := 7#32
  ![v89.toNat, 7]
def k1_off9 (i : grid1.Coords) (c0_i32_431 : BitVec 32) : Fin 2 → Nat :=
  let arg1 : BitVec 32 := BitVec.ofNat 32 (i 1).val
  let c8_i32 : BitVec 32 := 8#32
  let v0 : BitVec 32 := Scalar.muli arg1 c8_i32
  let v777 : BitVec 32 := Scalar.addi v0 c0_i32_431
  let v778 : Index := Scalar.indexCast v777
  let c8 : Index := 8#32
  ![v778.toNat, 8]
def k1_off10 (i : grid1.Coords) (c0_i32_436 : BitVec 32) : Fin 2 → Nat :=
  let arg1 : BitVec 32 := BitVec.ofNat 32 (i 1).val
  let c8_i32 : BitVec 32 := 8#32
  let v0 : BitVec 32 := Scalar.muli arg1 c8_i32
  let v789 : BitVec 32 := Scalar.addi v0 c0_i32_436
  let v790 : Index := Scalar.indexCast v789
  let c9 : Index := 9#32
  ![v790.toNat, 9]
def k1_off11 (i : grid1.Coords) (c0_i32_441 : BitVec 32) : Fin 2 → Nat :=
  let arg1 : BitVec 32 := BitVec.ofNat 32 (i 1).val
  let c8_i32 : BitVec 32 := 8#32
  let v0 : BitVec 32 := Scalar.muli arg1 c8_i32
  let v801 : BitVec 32 := Scalar.addi v0 c0_i32_441
  let v802 : Index := Scalar.indexCast v801
  let c10 : Index := 10#32
  ![v802.toNat, 10]
def k1_off12 (i : grid1.Coords) (c0_i32_446 : BitVec 32) : Fin 2 → Nat :=
  let arg1 : BitVec 32 := BitVec.ofNat 32 (i 1).val
  let c8_i32 : BitVec 32 := 8#32
  let v0 : BitVec 32 := Scalar.muli arg1 c8_i32
  let v813 : BitVec 32 := Scalar.addi v0 c0_i32_446
  let v814 : Index := Scalar.indexCast v813
  let c11 : Index := 11#32
  ![v814.toNat, 11]
def k1_off13 (i : grid1.Coords) (c0_i32_451 : BitVec 32) : Fin 2 → Nat :=
  let arg1 : BitVec 32 := BitVec.ofNat 32 (i 1).val
  let c8_i32 : BitVec 32 := 8#32
  let v0 : BitVec 32 := Scalar.muli arg1 c8_i32
  let v825 : BitVec 32 := Scalar.addi v0 c0_i32_451
  let v826 : Index := Scalar.indexCast v825
  let c12 : Index := 12#32
  ![v826.toNat, 12]
def k1_off14 (i : grid1.Coords) (c0_i32_456 : BitVec 32) : Fin 2 → Nat :=
  let arg1 : BitVec 32 := BitVec.ofNat 32 (i 1).val
  let c8_i32 : BitVec 32 := 8#32
  let v0 : BitVec 32 := Scalar.muli arg1 c8_i32
  let v837 : BitVec 32 := Scalar.addi v0 c0_i32_456
  let v838 : Index := Scalar.indexCast v837
  let c13 : Index := 13#32
  ![v838.toNat, 13]
def k1_off15 (i : grid1.Coords) (c0_i32_461 : BitVec 32) : Fin 2 → Nat :=
  let arg1 : BitVec 32 := BitVec.ofNat 32 (i 1).val
  let c8_i32 : BitVec 32 := 8#32
  let v0 : BitVec 32 := Scalar.muli arg1 c8_i32
  let v849 : BitVec 32 := Scalar.addi v0 c0_i32_461
  let v850 : Index := Scalar.indexCast v849
  let c14 : Index := 14#32
  ![v850.toNat, 14]
def k1_off16 (i : grid1.Coords) (c0_i32_466 : BitVec 32) : Fin 2 → Nat :=
  let arg1 : BitVec 32 := BitVec.ofNat 32 (i 1).val
  let c8_i32 : BitVec 32 := 8#32
  let v0 : BitVec 32 := Scalar.muli arg1 c8_i32
  let v861 : BitVec 32 := Scalar.addi v0 c0_i32_466
  let v862 : Index := Scalar.indexCast v861
  let c15 : Index := 15#32
  ![v862.toNat, 15]
def k1_off17 (i : grid1.Coords) (c0_i32_869 : BitVec 32) : Fin 2 → Nat :=
  let arg1 : BitVec 32 := BitVec.ofNat 32 (i 1).val
  let c8_i32 : BitVec 32 := 8#32
  let v0 : BitVec 32 := Scalar.muli arg1 c8_i32
  let v1551 : BitVec 32 := Scalar.addi v0 c0_i32_869
  let v1552 : Index := Scalar.indexCast v1551
  let c16 : Index := 16#32
  ![v1552.toNat, 16]
def k1_off18 (i : grid1.Coords) (c0_i32_874 : BitVec 32) : Fin 2 → Nat :=
  let arg1 : BitVec 32 := BitVec.ofNat 32 (i 1).val
  let c8_i32 : BitVec 32 := 8#32
  let v0 : BitVec 32 := Scalar.muli arg1 c8_i32
  let v1563 : BitVec 32 := Scalar.addi v0 c0_i32_874
  let v1564 : Index := Scalar.indexCast v1563
  let c17 : Index := 17#32
  ![v1564.toNat, 17]
def k1_off19 (i : grid1.Coords) (c0_i32_879 : BitVec 32) : Fin 2 → Nat :=
  let arg1 : BitVec 32 := BitVec.ofNat 32 (i 1).val
  let c8_i32 : BitVec 32 := 8#32
  let v0 : BitVec 32 := Scalar.muli arg1 c8_i32
  let v1575 : BitVec 32 := Scalar.addi v0 c0_i32_879
  let v1576 : Index := Scalar.indexCast v1575
  let c18 : Index := 18#32
  ![v1576.toNat, 18]
def k1_off20 (i : grid1.Coords) (c0_i32_884 : BitVec 32) : Fin 2 → Nat :=
  let arg1 : BitVec 32 := BitVec.ofNat 32 (i 1).val
  let c8_i32 : BitVec 32 := 8#32
  let v0 : BitVec 32 := Scalar.muli arg1 c8_i32
  let v1587 : BitVec 32 := Scalar.addi v0 c0_i32_884
  let v1588 : Index := Scalar.indexCast v1587
  let c19 : Index := 19#32
  ![v1588.toNat, 19]
def k1_off21 (i : grid1.Coords) (c0_i32_889 : BitVec 32) : Fin 2 → Nat :=
  let arg1 : BitVec 32 := BitVec.ofNat 32 (i 1).val
  let c8_i32 : BitVec 32 := 8#32
  let v0 : BitVec 32 := Scalar.muli arg1 c8_i32
  let v1599 : BitVec 32 := Scalar.addi v0 c0_i32_889
  let v1600 : Index := Scalar.indexCast v1599
  let c20 : Index := 20#32
  ![v1600.toNat, 20]
def k1_off22 (i : grid1.Coords) (c0_i32_894 : BitVec 32) : Fin 2 → Nat :=
  let arg1 : BitVec 32 := BitVec.ofNat 32 (i 1).val
  let c8_i32 : BitVec 32 := 8#32
  let v0 : BitVec 32 := Scalar.muli arg1 c8_i32
  let v1611 : BitVec 32 := Scalar.addi v0 c0_i32_894
  let v1612 : Index := Scalar.indexCast v1611
  let c21 : Index := 21#32
  ![v1612.toNat, 21]
def k1_off23 (i : grid1.Coords) (c0_i32_899 : BitVec 32) : Fin 2 → Nat :=
  let arg1 : BitVec 32 := BitVec.ofNat 32 (i 1).val
  let c8_i32 : BitVec 32 := 8#32
  let v0 : BitVec 32 := Scalar.muli arg1 c8_i32
  let v1623 : BitVec 32 := Scalar.addi v0 c0_i32_899
  let v1624 : Index := Scalar.indexCast v1623
  let c22 : Index := 22#32
  ![v1624.toNat, 22]
def k1_off24 (i : grid1.Coords) (c0_i32_904 : BitVec 32) : Fin 2 → Nat :=
  let arg1 : BitVec 32 := BitVec.ofNat 32 (i 1).val
  let c8_i32 : BitVec 32 := 8#32
  let v0 : BitVec 32 := Scalar.muli arg1 c8_i32
  let v1635 : BitVec 32 := Scalar.addi v0 c0_i32_904
  let v1636 : Index := Scalar.indexCast v1635
  let c23 : Index := 23#32
  ![v1636.toNat, 23]
def k1_off25 (i : grid1.Coords) (c0_i32_1307 : BitVec 32) : Fin 2 → Nat :=
  let arg1 : BitVec 32 := BitVec.ofNat 32 (i 1).val
  let c8_i32 : BitVec 32 := 8#32
  let v0 : BitVec 32 := Scalar.muli arg1 c8_i32
  let v2325 : BitVec 32 := Scalar.addi v0 c0_i32_1307
  let v2326 : Index := Scalar.indexCast v2325
  let c24 : Index := 24#32
  ![v2326.toNat, 24]
def k1_off26 (i : grid1.Coords) (c0_i32_1312 : BitVec 32) : Fin 2 → Nat :=
  let arg1 : BitVec 32 := BitVec.ofNat 32 (i 1).val
  let c8_i32 : BitVec 32 := 8#32
  let v0 : BitVec 32 := Scalar.muli arg1 c8_i32
  let v2337 : BitVec 32 := Scalar.addi v0 c0_i32_1312
  let v2338 : Index := Scalar.indexCast v2337
  let c25 : Index := 25#32
  ![v2338.toNat, 25]
def k1_off27 (i : grid1.Coords) (c0_i32_1317 : BitVec 32) : Fin 2 → Nat :=
  let arg1 : BitVec 32 := BitVec.ofNat 32 (i 1).val
  let c8_i32 : BitVec 32 := 8#32
  let v0 : BitVec 32 := Scalar.muli arg1 c8_i32
  let v2349 : BitVec 32 := Scalar.addi v0 c0_i32_1317
  let v2350 : Index := Scalar.indexCast v2349
  let c26 : Index := 26#32
  ![v2350.toNat, 26]
def k1_off28 (i : grid1.Coords) (c0_i32_1322 : BitVec 32) : Fin 2 → Nat :=
  let arg1 : BitVec 32 := BitVec.ofNat 32 (i 1).val
  let c8_i32 : BitVec 32 := 8#32
  let v0 : BitVec 32 := Scalar.muli arg1 c8_i32
  let v2361 : BitVec 32 := Scalar.addi v0 c0_i32_1322
  let v2362 : Index := Scalar.indexCast v2361
  let c27 : Index := 27#32
  ![v2362.toNat, 27]
def k1_off29 (i : grid1.Coords) (c0_i32_1327 : BitVec 32) : Fin 2 → Nat :=
  let arg1 : BitVec 32 := BitVec.ofNat 32 (i 1).val
  let c8_i32 : BitVec 32 := 8#32
  let v0 : BitVec 32 := Scalar.muli arg1 c8_i32
  let v2373 : BitVec 32 := Scalar.addi v0 c0_i32_1327
  let v2374 : Index := Scalar.indexCast v2373
  let c28 : Index := 28#32
  ![v2374.toNat, 28]
def k1_off30 (i : grid1.Coords) (c0_i32_1332 : BitVec 32) : Fin 2 → Nat :=
  let arg1 : BitVec 32 := BitVec.ofNat 32 (i 1).val
  let c8_i32 : BitVec 32 := 8#32
  let v0 : BitVec 32 := Scalar.muli arg1 c8_i32
  let v2385 : BitVec 32 := Scalar.addi v0 c0_i32_1332
  let v2386 : Index := Scalar.indexCast v2385
  let c29 : Index := 29#32
  ![v2386.toNat, 29]
def k1_off31 (i : grid1.Coords) (c0_i32_1337 : BitVec 32) : Fin 2 → Nat :=
  let arg1 : BitVec 32 := BitVec.ofNat 32 (i 1).val
  let c8_i32 : BitVec 32 := 8#32
  let v0 : BitVec 32 := Scalar.muli arg1 c8_i32
  let v2397 : BitVec 32 := Scalar.addi v0 c0_i32_1337
  let v2398 : Index := Scalar.indexCast v2397
  let c30 : Index := 30#32
  ![v2398.toNat, 30]
def k1_off32 (i : grid1.Coords) (c0_i32_1342 : BitVec 32) : Fin 2 → Nat :=
  let arg1 : BitVec 32 := BitVec.ofNat 32 (i 1).val
  let c8_i32 : BitVec 32 := 8#32
  let v0 : BitVec 32 := Scalar.muli arg1 c8_i32
  let v2409 : BitVec 32 := Scalar.addi v0 c0_i32_1342
  let v2410 : Index := Scalar.indexCast v2409
  let c31 : Index := 31#32
  ![v2410.toNat, 31]
def k1_off33 (i : grid1.Coords) (c0_i32_1745 : BitVec 32) : Fin 2 → Nat :=
  let arg1 : BitVec 32 := BitVec.ofNat 32 (i 1).val
  let c8_i32 : BitVec 32 := 8#32
  let v0 : BitVec 32 := Scalar.muli arg1 c8_i32
  let v3099 : BitVec 32 := Scalar.addi v0 c0_i32_1745
  let v3100 : Index := Scalar.indexCast v3099
  let c32 : Index := 32#32
  ![v3100.toNat, 32]
def k1_off34 (i : grid1.Coords) (c0_i32_1750 : BitVec 32) : Fin 2 → Nat :=
  let arg1 : BitVec 32 := BitVec.ofNat 32 (i 1).val
  let c8_i32 : BitVec 32 := 8#32
  let v0 : BitVec 32 := Scalar.muli arg1 c8_i32
  let v3111 : BitVec 32 := Scalar.addi v0 c0_i32_1750
  let v3112 : Index := Scalar.indexCast v3111
  let c33 : Index := 33#32
  ![v3112.toNat, 33]
def k1_off35 (i : grid1.Coords) (c0_i32_1755 : BitVec 32) : Fin 2 → Nat :=
  let arg1 : BitVec 32 := BitVec.ofNat 32 (i 1).val
  let c8_i32 : BitVec 32 := 8#32
  let v0 : BitVec 32 := Scalar.muli arg1 c8_i32
  let v3123 : BitVec 32 := Scalar.addi v0 c0_i32_1755
  let v3124 : Index := Scalar.indexCast v3123
  let c34 : Index := 34#32
  ![v3124.toNat, 34]
def k1_off36 (i : grid1.Coords) (c0_i32_1760 : BitVec 32) : Fin 2 → Nat :=
  let arg1 : BitVec 32 := BitVec.ofNat 32 (i 1).val
  let c8_i32 : BitVec 32 := 8#32
  let v0 : BitVec 32 := Scalar.muli arg1 c8_i32
  let v3135 : BitVec 32 := Scalar.addi v0 c0_i32_1760
  let v3136 : Index := Scalar.indexCast v3135
  let c35 : Index := 35#32
  ![v3136.toNat, 35]
def k1_off37 (i : grid1.Coords) (c0_i32_1765 : BitVec 32) : Fin 2 → Nat :=
  let arg1 : BitVec 32 := BitVec.ofNat 32 (i 1).val
  let c8_i32 : BitVec 32 := 8#32
  let v0 : BitVec 32 := Scalar.muli arg1 c8_i32
  let v3147 : BitVec 32 := Scalar.addi v0 c0_i32_1765
  let v3148 : Index := Scalar.indexCast v3147
  let c36 : Index := 36#32
  ![v3148.toNat, 36]
def k1_off38 (i : grid1.Coords) (c0_i32_1770 : BitVec 32) : Fin 2 → Nat :=
  let arg1 : BitVec 32 := BitVec.ofNat 32 (i 1).val
  let c8_i32 : BitVec 32 := 8#32
  let v0 : BitVec 32 := Scalar.muli arg1 c8_i32
  let v3159 : BitVec 32 := Scalar.addi v0 c0_i32_1770
  let v3160 : Index := Scalar.indexCast v3159
  let c37 : Index := 37#32
  ![v3160.toNat, 37]
def k1_off39 (i : grid1.Coords) (c0_i32_1775 : BitVec 32) : Fin 2 → Nat :=
  let arg1 : BitVec 32 := BitVec.ofNat 32 (i 1).val
  let c8_i32 : BitVec 32 := 8#32
  let v0 : BitVec 32 := Scalar.muli arg1 c8_i32
  let v3171 : BitVec 32 := Scalar.addi v0 c0_i32_1775
  let v3172 : Index := Scalar.indexCast v3171
  let c38 : Index := 38#32
  ![v3172.toNat, 38]
def k1_off40 (i : grid1.Coords) (c0_i32_1780 : BitVec 32) : Fin 2 → Nat :=
  let arg1 : BitVec 32 := BitVec.ofNat 32 (i 1).val
  let c8_i32 : BitVec 32 := 8#32
  let v0 : BitVec 32 := Scalar.muli arg1 c8_i32
  let v3183 : BitVec 32 := Scalar.addi v0 c0_i32_1780
  let v3184 : Index := Scalar.indexCast v3183
  let c39 : Index := 39#32
  ![v3184.toNat, 39]
def k1_off41 (i : grid1.Coords) (c0_i32_2183 : BitVec 32) : Fin 2 → Nat :=
  let arg1 : BitVec 32 := BitVec.ofNat 32 (i 1).val
  let c8_i32 : BitVec 32 := 8#32
  let v0 : BitVec 32 := Scalar.muli arg1 c8_i32
  let v3873 : BitVec 32 := Scalar.addi v0 c0_i32_2183
  let v3874 : Index := Scalar.indexCast v3873
  let c40 : Index := 40#32
  ![v3874.toNat, 40]
def k1_off42 (i : grid1.Coords) (c0_i32_2188 : BitVec 32) : Fin 2 → Nat :=
  let arg1 : BitVec 32 := BitVec.ofNat 32 (i 1).val
  let c8_i32 : BitVec 32 := 8#32
  let v0 : BitVec 32 := Scalar.muli arg1 c8_i32
  let v3885 : BitVec 32 := Scalar.addi v0 c0_i32_2188
  let v3886 : Index := Scalar.indexCast v3885
  let c41 : Index := 41#32
  ![v3886.toNat, 41]
def k1_off43 (i : grid1.Coords) (c0_i32_2193 : BitVec 32) : Fin 2 → Nat :=
  let arg1 : BitVec 32 := BitVec.ofNat 32 (i 1).val
  let c8_i32 : BitVec 32 := 8#32
  let v0 : BitVec 32 := Scalar.muli arg1 c8_i32
  let v3897 : BitVec 32 := Scalar.addi v0 c0_i32_2193
  let v3898 : Index := Scalar.indexCast v3897
  let c42 : Index := 42#32
  ![v3898.toNat, 42]
def k1_off44 (i : grid1.Coords) (c0_i32_2198 : BitVec 32) : Fin 2 → Nat :=
  let arg1 : BitVec 32 := BitVec.ofNat 32 (i 1).val
  let c8_i32 : BitVec 32 := 8#32
  let v0 : BitVec 32 := Scalar.muli arg1 c8_i32
  let v3909 : BitVec 32 := Scalar.addi v0 c0_i32_2198
  let v3910 : Index := Scalar.indexCast v3909
  let c43 : Index := 43#32
  ![v3910.toNat, 43]
def k1_off45 (i : grid1.Coords) (c0_i32_2203 : BitVec 32) : Fin 2 → Nat :=
  let arg1 : BitVec 32 := BitVec.ofNat 32 (i 1).val
  let c8_i32 : BitVec 32 := 8#32
  let v0 : BitVec 32 := Scalar.muli arg1 c8_i32
  let v3921 : BitVec 32 := Scalar.addi v0 c0_i32_2203
  let v3922 : Index := Scalar.indexCast v3921
  let c44 : Index := 44#32
  ![v3922.toNat, 44]
def k1_off46 (i : grid1.Coords) (c0_i32_2208 : BitVec 32) : Fin 2 → Nat :=
  let arg1 : BitVec 32 := BitVec.ofNat 32 (i 1).val
  let c8_i32 : BitVec 32 := 8#32
  let v0 : BitVec 32 := Scalar.muli arg1 c8_i32
  let v3933 : BitVec 32 := Scalar.addi v0 c0_i32_2208
  let v3934 : Index := Scalar.indexCast v3933
  let c45 : Index := 45#32
  ![v3934.toNat, 45]
def k1_off47 (i : grid1.Coords) (c0_i32_2213 : BitVec 32) : Fin 2 → Nat :=
  let arg1 : BitVec 32 := BitVec.ofNat 32 (i 1).val
  let c8_i32 : BitVec 32 := 8#32
  let v0 : BitVec 32 := Scalar.muli arg1 c8_i32
  let v3945 : BitVec 32 := Scalar.addi v0 c0_i32_2213
  let v3946 : Index := Scalar.indexCast v3945
  let c46 : Index := 46#32
  ![v3946.toNat, 46]
def k1_off48 (i : grid1.Coords) (c0_i32_2218 : BitVec 32) : Fin 2 → Nat :=
  let arg1 : BitVec 32 := BitVec.ofNat 32 (i 1).val
  let c8_i32 : BitVec 32 := 8#32
  let v0 : BitVec 32 := Scalar.muli arg1 c8_i32
  let v3957 : BitVec 32 := Scalar.addi v0 c0_i32_2218
  let v3958 : Index := Scalar.indexCast v3957
  let c47 : Index := 47#32
  ![v3958.toNat, 47]
def k1_off49 (i : grid1.Coords) (c0_i32_2621 : BitVec 32) : Fin 2 → Nat :=
  let arg1 : BitVec 32 := BitVec.ofNat 32 (i 1).val
  let c8_i32 : BitVec 32 := 8#32
  let v0 : BitVec 32 := Scalar.muli arg1 c8_i32
  let v4647 : BitVec 32 := Scalar.addi v0 c0_i32_2621
  let v4648 : Index := Scalar.indexCast v4647
  let c48 : Index := 48#32
  ![v4648.toNat, 48]
def k1_off50 (i : grid1.Coords) (c0_i32_2626 : BitVec 32) : Fin 2 → Nat :=
  let arg1 : BitVec 32 := BitVec.ofNat 32 (i 1).val
  let c8_i32 : BitVec 32 := 8#32
  let v0 : BitVec 32 := Scalar.muli arg1 c8_i32
  let v4659 : BitVec 32 := Scalar.addi v0 c0_i32_2626
  let v4660 : Index := Scalar.indexCast v4659
  let c49 : Index := 49#32
  ![v4660.toNat, 49]
def k1_off51 (i : grid1.Coords) (c0_i32_2631 : BitVec 32) : Fin 2 → Nat :=
  let arg1 : BitVec 32 := BitVec.ofNat 32 (i 1).val
  let c8_i32 : BitVec 32 := 8#32
  let v0 : BitVec 32 := Scalar.muli arg1 c8_i32
  let v4671 : BitVec 32 := Scalar.addi v0 c0_i32_2631
  let v4672 : Index := Scalar.indexCast v4671
  let c50 : Index := 50#32
  ![v4672.toNat, 50]
def k1_off52 (i : grid1.Coords) (c0_i32_2636 : BitVec 32) : Fin 2 → Nat :=
  let arg1 : BitVec 32 := BitVec.ofNat 32 (i 1).val
  let c8_i32 : BitVec 32 := 8#32
  let v0 : BitVec 32 := Scalar.muli arg1 c8_i32
  let v4683 : BitVec 32 := Scalar.addi v0 c0_i32_2636
  let v4684 : Index := Scalar.indexCast v4683
  let c51 : Index := 51#32
  ![v4684.toNat, 51]
def k1_off53 (i : grid1.Coords) (c0_i32_2641 : BitVec 32) : Fin 2 → Nat :=
  let arg1 : BitVec 32 := BitVec.ofNat 32 (i 1).val
  let c8_i32 : BitVec 32 := 8#32
  let v0 : BitVec 32 := Scalar.muli arg1 c8_i32
  let v4695 : BitVec 32 := Scalar.addi v0 c0_i32_2641
  let v4696 : Index := Scalar.indexCast v4695
  let c52 : Index := 52#32
  ![v4696.toNat, 52]
def k1_off54 (i : grid1.Coords) (c0_i32_2646 : BitVec 32) : Fin 2 → Nat :=
  let arg1 : BitVec 32 := BitVec.ofNat 32 (i 1).val
  let c8_i32 : BitVec 32 := 8#32
  let v0 : BitVec 32 := Scalar.muli arg1 c8_i32
  let v4707 : BitVec 32 := Scalar.addi v0 c0_i32_2646
  let v4708 : Index := Scalar.indexCast v4707
  let c53 : Index := 53#32
  ![v4708.toNat, 53]
def k1_off55 (i : grid1.Coords) (c0_i32_2651 : BitVec 32) : Fin 2 → Nat :=
  let arg1 : BitVec 32 := BitVec.ofNat 32 (i 1).val
  let c8_i32 : BitVec 32 := 8#32
  let v0 : BitVec 32 := Scalar.muli arg1 c8_i32
  let v4719 : BitVec 32 := Scalar.addi v0 c0_i32_2651
  let v4720 : Index := Scalar.indexCast v4719
  let c54 : Index := 54#32
  ![v4720.toNat, 54]
def k1_off56 (i : grid1.Coords) (c0_i32_2656 : BitVec 32) : Fin 2 → Nat :=
  let arg1 : BitVec 32 := BitVec.ofNat 32 (i 1).val
  let c8_i32 : BitVec 32 := 8#32
  let v0 : BitVec 32 := Scalar.muli arg1 c8_i32
  let v4731 : BitVec 32 := Scalar.addi v0 c0_i32_2656
  let v4732 : Index := Scalar.indexCast v4731
  let c55 : Index := 55#32
  ![v4732.toNat, 55]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .smem S32x56 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x7168 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x7168 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4096x7168 : Shape := ⟨2, ![4096, 7168]⟩
abbrev S32x56 : Shape := ⟨2, ![32, 56]⟩
abbrev S4096x56x128 : Shape := ⟨3, ![4096, 56, 128]⟩
abbrev S_ : Shape := ⟨0, ![]⟩
abbrev S4096x56 : Shape := ⟨2, ![4096, 56]⟩
abbrev S4096x56x1 : Shape := ⟨3, ![4096, 56, 1]⟩
abbrev S32x128x56x128 : Shape := ⟨4, ![32, 128, 56, 128]⟩
abbrev S32x1x56x1 : Shape := ⟨4, ![32, 1, 56, 1]⟩
abbrev S4096x4096 : Shape := ⟨2, ![4096, 4096]⟩

abbrev nBuf : Space → Nat
  | .hbm => 28
  | .vmem => 2
  | .smem => 0
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S32x56, .f32⟩
  | .hbm, ⟨3, _⟩ => ⟨S4096x7168, .f32⟩
  | .hbm, ⟨4, _⟩ => ⟨S4096x56x128, .f32⟩
  | .hbm, ⟨5, _⟩ => ⟨S4096x56x128, .f32⟩
  | .hbm, ⟨6, _⟩ => ⟨S_, .f32⟩
  | .hbm, ⟨7, _⟩ => ⟨S4096x56, .f32⟩
  | .hbm, ⟨8, _⟩ => ⟨S4096x56x1, .f32⟩
  | .hbm, ⟨9, _⟩ => ⟨S_, .f32⟩
  | .hbm, ⟨10, _⟩ => ⟨S4096x56x1, .f32⟩
  | .hbm, ⟨11, _⟩ => ⟨S4096x56x1, .f32⟩
  | .hbm, ⟨12, _⟩ => ⟨S_, .f32⟩
  | .hbm, ⟨13, _⟩ => ⟨S4096x56x1, .f32⟩
  | .hbm, ⟨14, _⟩ => ⟨S4096x56x1, .f32⟩
  | .hbm, ⟨15, _⟩ => ⟨S4096x56x128, .f32⟩
  | .hbm, ⟨16, _⟩ => ⟨S4096x56x128, .f32⟩
  | .hbm, ⟨17, _⟩ => ⟨S4096x56x128, .f32⟩
  | .hbm, ⟨18, _⟩ => ⟨S4096x56x128, .f32⟩
  | .hbm, ⟨19, _⟩ => ⟨S4096x56x128, .f32⟩
  | .hbm, ⟨20, _⟩ => ⟨S4096x7168, .f32⟩
  | .hbm, ⟨21, _⟩ => ⟨S32x128x56x128, .f32⟩
  | .hbm, ⟨22, _⟩ => ⟨S32x1x56x1, .f32⟩
  | .hbm, ⟨23, _⟩ => ⟨S32x128x56x128, .f32⟩
  | .hbm, ⟨24, _⟩ => ⟨S32x128x56x128, .f32⟩
  | .hbm, ⟨25, _⟩ => ⟨S4096x7168, .f32⟩
  | .hbm, ⟨26, _⟩ => ⟨S4096x4096, .f32⟩
  | .hbm, ⟨27, _⟩ => ⟨S4096x4096, .bf16⟩
  | .local _ .vmem, ⟨0, _⟩ => ⟨S4096x56x128, .f32⟩
  | .local _ .vmem, ⟨1, _⟩ => ⟨S4096x56x128, .f32⟩
  | _, _ => ⟨S4096x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x56x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Spec.lean ====
/-
  The mathematics both programs compute, over the extended reals: a row group's scale, the activations
  quantized and dequantized group by group, the weights dequantized block by block, and the product of the two.
-/
module

public import Idealize.ShloMosaic.Lib.ValueIdx
public import Idealize.ShloMosaic.Lib.IdealHost

@[expose] public section

noncomputable section

namespace Cert.GroupGemm

open Idealize.ShloMosaic Idealize.ShloMosaic.ValueIdx

/-- The largest absolute value of a group of 128 entries, from −∞. -/
def groupMax (g : Fin 128 → EReal) : EReal :=
  (Finset.univ : Finset (Fin 128)).fold max (Ideal.ofBits .f32 0xFF800000#32) fun l => max (g l) (-(g l))

/-- A group's scale: its largest absolute value, at least 1e-12, over 448. -/
def groupScale (g : Fin 128 → EReal) : EReal :=
  Ideal.div (max (groupMax g) (Ideal.ofBits .f32 0x2B8CBCCC#32)) (Ideal.ofBits .f32 0x43E00000#32)

/-- The group that column `k` of row `r` lies in: the 128 columns of that row from `128 * (k / 128)` on. -/
def group {M : ℕ} (x : (⟨2, ![M, 7168]⟩ : Shape).Idx → EReal) (r : Fin M) (k : Fin 7168) : Fin 128 → EReal :=
  fun l => x (ix2 r ⟨128 * (k.val / 128) + l.val, by omega⟩)

/-- The activation at row `r`, column `k`, divided by its group's scale and multiplied by it again. -/
def actDq {M : ℕ} (x : (⟨2, ![M, 7168]⟩ : Shape).Idx → EReal) (r : Fin M) (k : Fin 7168) : EReal :=
  Ideal.div (x (ix2 r k)) (groupScale (group x r k)) * groupScale (group x r k)

/-- The dequantized activation depends on its row alone. -/
theorem actDq_congr {M N : ℕ} {x : (⟨2, ![M, 7168]⟩ : Shape).Idx → EReal} {y : (⟨2, ![N, 7168]⟩ : Shape).Idx → EReal}
    {r : Fin M} {q : Fin N} {k : Fin 7168} (h : ∀ k, x (ix2 r k) = y (ix2 q k)) : actDq x r k = actDq y q k := by
  have e : group x r k = group y q k := funext fun l => h _
  unfold actDq
  rw [h, e]

/-- The weight at row `n`, column `k`, times the scale of the 128 × 128 block it lies in. -/
def wDq (w : (⟨2, ![4096, 7168]⟩ : Shape).Idx → EReal) (s : (⟨2, ![32, 56]⟩ : Shape).Idx → EReal) (n : Fin 4096)
    (k : Fin 7168) : EReal :=
  w (ix2 n k) * s (ix2 ⟨n.val / 128, by omega⟩ ⟨k.val / 128, by omega⟩)

/-- The product: row `r` of the dequantized activations against row `n` of the dequantized weights. -/
def product (x w : (⟨2, ![4096, 7168]⟩ : Shape).Idx → EReal) (s : (⟨2, ![32, 56]⟩ : Shape).Idx → EReal) :
    (⟨2, ![4096, 4096]⟩ : Shape).Idx → EReal :=
  fun i => ∑ k : Fin 7168, actDq x (i 0) k * wDq w s (i 1) k

/-- The least scale's numerator, 1e-12 as the f32 word spells it, is positive. -/
theorem eps_pos : 0 < Ideal.ofBits .f32 0x2B8CBCCC#32 := by
  have h : Ideal.ofBits .f32 0x2B8CBCCC#32 = ((9223372 * (2 : ℝ) ^ (-63 : ℤ) : ℝ) : EReal) := by
    simp [Ideal.ofBits, Ideal.ieee, -EReal.coe_mul]
  rw [h]
  exact_mod_cast (by positivity : (0 : ℝ) < 9223372 * (2 : ℝ) ^ (-63 : ℤ))

/-- The word of 448 reads as 448. -/
theorem ofBits_448 : Ideal.ofBits .f32 0x43E00000#32 = ((448 : ℝ) : EReal) := by
  simp [Ideal.ofBits, Ideal.ieee, -EReal.coe_mul]; norm_num

/-- No group's scale is zero: its numerator is at least 1e-12. -/
theorem groupScale_ne_zero (g : Fin 128 → EReal) : groupScale g ≠ 0 := by
  have h : 0 < max (groupMax g) (Ideal.ofBits .f32 0x2B8CBCCC#32) := lt_max_of_lt_right eps_pos
  unfold groupScale
  rw [ofBits_448, ← Ideal.mul_one_div (by norm_num), show (1 : EReal) = ((1 : ℝ) : EReal) from rfl,
    Ideal.div_coe (by norm_num)]
  exact (EReal.mul_pos h (by norm_num)).ne'

/-- Multiplying by a scale's reciprocal is dividing by the scale, the scale not being zero. -/
theorem mul_recip_groupScale (x : EReal) (g : Fin 128 → EReal) :
    x * Ideal.div 1 (groupScale g) = Ideal.div x (groupScale g) :=
  Ideal.mul_one_div (groupScale_ne_zero g)

end Cert.GroupGemm

end
-- ==== Proof.QuantValue.lean ====
/-
  What one block of the quantizing kernel computes over the extended reals.

  A block holds 512 rows. For each of the 56 groups of 128 columns it quantizes and dequantizes the group's part of every
  row and writes it back to the same columns. The kernel multiplies by the reciprocal of a row's scale where the
  mathematics divides by the scale; the scale is positive, so the two are equal.
-/
module

public import proofs.«01_k».proof.Proof.Gen.KernelIdeal.Frame
public import proofs.«01_k».proof.Proof.Spec
public import Idealize.ShloMosaic.Lib.ValueLayout
public import Idealize.ShloMosaic.Lib.ValueLayoutCasts
public import Idealize.ShloMosaic.Lib.Pipeline.Value
public import Idealize.ShloMosaic.Lib.Pipeline.ValueKit

@[expose] public section

set_option maxRecDepth 16384

noncomputable section

namespace Cert.KernelIdeal.Quant

open Cert.KernelIdeal Cert.KernelIdeal.Gen Cert.GroupGemm Idealize.ShloMosaic.TcCoe Idealize.ShloMosaic.ValueIdx
open Idealize.ShloMosaic hiding ix1 ix2 ix3 truncf_apply extf_apply mulf_apply divf_apply maximumf_apply absf_apply

/-- The columns of group `n` are inside the block. -/
theorem cols_inb {n : ℕ} (hn : n < 56) :
    ∀ a, (![0, 128 * n] : Fin 2 → ℕ) a + S512x128.size a ≤ S512x7168.size a := fun a => by
  match a with
  | ⟨0, _⟩ => show 0 + 512 ≤ 512; omega
  | ⟨1, _⟩ => show 128 * n + 128 ≤ 7168; omega

/-- The columns of group `n`. -/
abbrev cols {n : ℕ} (hn : n < 56) : Rect S512x7168 :=
  Rect.unit (s := S512x7168) ![0, 128 * n] S512x128.size (cols_inb hn)

/-- The writes of the first `n` groups, the last first. -/
def writes {F : FTy → Type} [FloatOps F] (x : Vec F S512x7168 .bf16) : (n : ℕ) → n ≤ 56 →
    List (View.Piece (Elt F) S512x7168 .bf16)
  | 0, _ => []
  | n + 1, h => ⟨cols (n := n) h, k0_pay2 (View.ld x (cols (n := n) h))⟩ :: writes x n (Nat.le_of_succ_le h)

/-- What the block leaves is what its 56 groups' writes leave. -/
theorem out_eq {F : FTy → Type} [FloatOps F] (x : Vec F S512x7168 .bf16) :
    out0_1 x = View.canon (writes x 56 (Nat.le_refl 56)) := rfl

/-- A row's scale, as the kernel computes it, is the scale of the row's 128 entries. -/
theorem scale_apply (v : FVec Ideal S512x128 .f32) (r : Fin 512) :
    divf (maximumf (shapeCast S512x1 (multiReduction .maximumf [1] S512 (absf v) 0xFF800000#32 reduces_S512x128_S512
        (.inl rfl) rfl) shapeCasts_S512_S512x1) (broadcast S512x1 (Scalar.ofBits (F := Ideal) .f32 0x2B8CBCCC#32)))
      (broadcast S512x1 (Scalar.ofBits (F := Ideal) .f32 0x43E00000#32)) (ix2 r (0 : Fin 1))
      = groupScale fun l => (v (ix2 r l) : EReal) := by
  rw [divf_apply, maximumf_apply, broadcast_apply, broadcast_apply, shapeCast_a_a1_apply]
  refine (congrArg (fun u : EReal => Ideal.div (max u (Ideal.ofBits .f32 0x2B8CBCCC#32)) (Ideal.ofBits .f32 0x43E00000#32))
    (Ideal.multiReduction_maximumf_single (absf v) 0xFF800000#32 reduces_S512x128_S512 (.inl rfl) rfl (ix1 r))).trans ?_
  unfold groupScale groupMax
  have e : (absf v ∘ reduces_S512x128_S512.lift (ix1 r) : Fin 128 → EReal)
      = fun l => max (v (ix2 r l) : EReal) (-(v (ix2 r l) : EReal)) := by
    funext l
    have el : reduces_S512x128_S512.lift (ix1 r) l = (ix2 r l : S512x128.Idx) := by
      funext d
      apply Fin.ext
      match d with
      | ⟨0, _⟩ => rfl
      | ⟨1, _⟩ => rfl
    show max (v (reduces_S512x128_S512.lift (ix1 r) l) : EReal) (-(v (reduces_S512x128_S512.lift (ix1 r) l) : EReal)) = _
    rw [el]
  exact congrArg (fun f : Fin 128 → EReal => Ideal.div (max ((Finset.univ : Finset (Fin 128)).fold max
    (Ideal.ofBits .f32 0xFF800000#32) f) (Ideal.ofBits .f32 0x2B8CBCCC#32)) (Ideal.ofBits .f32 0x43E00000#32)) e

/-- A column of 512 rows broadcast over 128 columns holds each row's entry at every column. -/
theorem spread_apply (v : FVec Ideal S512x1 .f32) (r : Fin 512) (l : Fin 128) :
    broadcastTo S512x128 v broadcasts_S512x1_S512x128 (ix2 r l) = v (ix2 r (0 : Fin 1)) :=
  broadcastTo_apply v _ _ _ fun a => by
    match a with
    | ⟨0, _⟩ => rfl
    | ⟨1, _⟩ => rfl

/-- One group's write at an entry: the entry over its row's scale, times the scale. -/
theorem group_apply (v : Vec Ideal S512x128 .bf16) (r : Fin 512) (l : Fin 128) :
    k0_pay2 (F := Ideal) v (ix2 r l)
      = Ideal.div (v (ix2 r l) : EReal) (groupScale fun l => (v (ix2 r l) : EReal))
        * groupScale fun l => (v (ix2 r l) : EReal) := by
  unfold k0_pay2
  rw [truncf_apply, mulf_apply, extf_apply, truncf_apply, mulf_apply, spread_apply, spread_apply, divf_apply, broadcast_apply,
    scale_apply]
  refine congrArg (fun u : EReal => u * groupScale fun l => (v (ix2 r l) : EReal)) ?_
  refine Eq.trans ?_ (mul_recip_groupScale _ _)
  exact congrArg (fun u : EReal => (v (ix2 r l) : EReal) * Ideal.div u (groupScale fun l => (v (ix2 r l) : EReal)))
    Ideal.ofBits_one_f32

variable (x : Vec Ideal S512x7168 .bf16)

/-- Once the first `n` groups are written, an entry of one of them is quantized and dequantized. -/
theorem writes_apply (r : Fin 512) (k : Fin 7168) : (n : ℕ) → (h : n ≤ 56) → k.val / 128 < n →
    View.canon (writes (F := Ideal) x n h) (ix2 r k) = actDq (M := 512) x r k
  | 0, _, hlt => absurd hlt (Nat.not_lt_zero _)
  | n + 1, h, hlt => by
    rw [writes]
    by_cases hn : k.val / 128 = n
    · have e : (ix2 r k : S512x7168.Idx) = (cols (n := n) h).emb (ix2 r (⟨k.val % 128, by omega⟩ : Fin 128)) := by
        funext d
        apply Fin.ext
        rw [ValueKit.rect_emb_unit_val]
        match d with
        | ⟨0, _⟩ => show r.val = 0 + r.val; omega
        | ⟨1, _⟩ => show k.val = 128 * n + k.val % 128; omega
      have el : ∀ l : Fin 128, (View.ld x (cols (n := n) h) (ix2 r l) : EReal) = x (ix2 r ⟨128 * (k.val / 128) + l.val, by omega⟩) :=
        fun l => View.ld_unit_apply_of x _ _ _ _ _ fun d => by
          match d with
          | ⟨0, _⟩ => show r.val = 0 + r.val; omega
          | ⟨1, _⟩ => show 128 * (k.val / 128) + l.val = 128 * n + l.val; omega
      have ek : (View.ld x (cols (n := n) h) (ix2 r (⟨k.val % 128, by omega⟩ : Fin 128)) : EReal) = x (ix2 r k) :=
        (el _).trans (congrArg (fun q : Fin 7168 => (x (ix2 r q) : EReal)) (Fin.ext (by
          show 128 * (k.val / 128) + k.val % 128 = k.val; omega)))
      rw [e, View.canon_cons_emb, group_apply, ek, funext el]
      rfl
    · rw [View.canon_cons_of_not_mem]
      · exact writes_apply r k n _ (by omega)
      · intro hm
        have hm := (Rect.mem_set_unit (inb := cols_inb (n := n) h)).mp hm
        have h1 : 128 * n ≤ k.val ∧ k.val < 128 * n + 128 := hm 1
        omega

/-- What the block leaves in the output's buffer, at an index: the block quantized and dequantized. -/
theorem out_apply (r : Fin 512) (k : Fin 7168) : out0_1 (F := Ideal) x (ix2 r k) = actDq (M := 512) x r k := by
  rw [out_eq]
  exact writes_apply x r k 56 _ (by omega)

end Cert.KernelIdeal.Quant

end
-- ==== Proof.QuantArray.lean ====
/-
  The array the quantizing kernel leaves: its eight blocks of 512 rows cover the activations, so every entry of the array
  is the activation there, quantized and dequantized.
-/
module

public import proofs.«01_k».proof.Proof.QuantValue
public import proofs.«01_k».proof.Proof.Gen.KernelIdeal.Points

@[expose] public section

noncomputable section

namespace Cert.KernelIdeal.Quant

open Cert.KernelIdeal Cert.KernelIdeal.Gen Cert.GroupGemm Idealize.ShloMosaic.TcCoe Idealize.ShloMosaic.ValueIdx
open Idealize.ShloMosaic hiding ix1 ix2 ix3 eq_ix2

/-- Grid point `t` reads and writes block `t` of rows. -/
theorem index : ∀ t : Fin cfg0.N, (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- There are eight grid points. -/
theorem points : cfg0.N = 8 := (by decide +kernel : grid0.N = 8)

/-- Entry `(r, k)` of block `t` of the input lies at row `512 * t + r` of the array. -/
theorem emb_in (t : Fin cfg0.N) (r : Fin 512) (k : Fin 7168) (R : Fin 4096) (hR : R.val = 512 * t.val + r.val) :
    ((cfg0.win 0).blk t).view.emb (ix2 r k) = (ix2 R k : S4096x7168.Idx) := by
  obtain ⟨⟨e0, e1⟩, -⟩ := index t
  funext a; apply Fin.ext
  match a with
  | ⟨0, _⟩ => show win0_0.index t (0 : Fin 2) * 512 + 1 * r.val = R.val; omega
  | ⟨1, _⟩ => show win0_0.index t (1 : Fin 2) * 7168 + 1 * k.val = k.val; omega

/-- Entry `(r, k)` of block `t` of the output lies at row `512 * t + r` of the array. -/
theorem emb_out (t : Fin cfg0.N) (r : Fin 512) (k : Fin 7168) (R : Fin 4096) (hR : R.val = 512 * t.val + r.val) :
    ((cfg0.win 1).blk t).view.emb (ix2 r k) = (ix2 R k : S4096x7168.Idx) := by
  obtain ⟨-, e0, e1⟩ := index t
  funext a; apply Fin.ext
  match a with
  | ⟨0, _⟩ => show win0_1.index t (0 : Fin 2) * 512 + 1 * r.val = R.val; omega
  | ⟨1, _⟩ => show win0_1.index t (1 : Fin 2) * 7168 + 1 * k.val = k.val; omega

/-- The activations quantized and dequantized, as an array. -/
def dequantized (X : S4096x7168.Idx → EReal) : S4096x7168.Idx → EReal := fun j => actDq (M := 4096) X (j 0) (j 1)

variable (V : (c : Dev nD) → (b : Ref sig .tc) → Buf (Elt Ideal) ((c : Thread nD τ).loc b)) (c : Dev nD)

/-- What a grid point writes back is its block of the dequantized activations. -/
theorem flushed_eq (t : Fin cfg0.N) : (dat0 (F := Ideal) V c).flushed 1 t
    = ((cfg0.win 1).blk t).view.read (Elt Ideal) (dequantized (V c main_arg0)) := by
  show (cfg0.win 1).cut (grid0.coords t) ((dat0 V c).after 1 t) = _
  rw [after0_1]
  have ht : t.val < 8 := points ▸ t.isLt
  funext (j : S512x7168.Idx)
  obtain ⟨r, k, rfl⟩ : ∃ (r : Fin 512) (k : Fin 7168), j = ix2 r k := ⟨j 0, j 1, eq_ix2 j⟩
  show out0_1 (F := Ideal) (iblk0 V c 0 t) (ix2 r k) = dequantized (V c main_arg0) (((cfg0.win 1).blk t).view.emb (ix2 r k))
  refine Eq.trans ?_ (congrArg (dequantized (V c main_arg0)) (emb_out t r k ⟨512 * t.val + r.val, by omega⟩ rfl)).symm
  refine (out_apply _ r k).trans ?_
  exact actDq_congr fun k => congrArg (V c main_arg0) (emb_in t r k ⟨512 * t.val + r.val, by omega⟩ rfl)

/-- Every entry of the array is in some point's block. -/
theorem covered (i : S4096x7168.Idx) : ∃ t : Fin cfg0.N, (cfg0.win 1).flush t = true ∧ i ∈ ((cfg0.win 1).blk t).view.set := by
  have hi : (i 0).val < 4096 := (i 0).isLt
  have ht : (i 0).val / 512 < cfg0.N := by rw [points]; omega
  refine ⟨⟨(i 0).val / 512, ht⟩, flush0_1 _, ?_⟩
  obtain ⟨R, k, rfl⟩ : ∃ (R : Fin 4096) (k : Fin 7168), i = ix2 R k := ⟨i 0, i 1, eq_ix2 i⟩
  have h := ((cfg0.win 1).blk ⟨R.val / 512, ht⟩).view.emb_mem_set (ix2 (⟨R.val % 512, by omega⟩ : Fin 512) k)
  rwa [emb_out _ _ _ R (by show R.val = 512 * (R.val / 512) + R.val % 512; omega)] at h

/-- The array the kernel leaves. -/
theorem array : (dat0 (F := Ideal) V c).arrAt 1 cfg0.N = dequantized (V c main_arg0) :=
  (dat0 V c).arrAt_eq_of_cover 1 _ (fun t _ => flushed_eq V c t) covered

end Cert.KernelIdeal.Quant

end
-- ==== Proof.GemmForm.lean ====
/-
  What one block of the product kernel computes, in closed form.

  A block multiplies 1024 rows of activations by 1024 rows of weights over seven chunks of 1024 columns. For each chunk
  it writes the dequantized weights, as 64 tiles of 128 × 128, into one of the two planes of a scratch buffer, reads that
  plane back, and adds the chunk's product to a running sum. Here the tiles, the scratch buffer after each chunk and the
  running sum are given by recursion, and the block is shown to be their last value.
-/
module

public import proofs.«01_k».proof.Proof.Gen.KernelIdeal.Frame
public import Idealize.ShloMosaic.Lib.Pipeline.Value

@[expose] public section

set_option maxRecDepth 16384

noncomputable section

namespace Cert.KernelIdeal.Gemm

open Cert.KernelIdeal Cert.KernelIdeal.Gen Idealize.ShloMosaic Idealize.ShloMosaic.TcCoe

variable {F : FTy → Type} [FloatOps F]

/-- Where the scale of the `n`-th weight tile of chunk `g` lies in the table of scales, at grid point `i`. -/
def scaleOff (i : grid1.Coords) (g n : ℕ) : Fin 2 → ℕ :=
  ![(Scalar.indexCast (Scalar.addi (Scalar.muli (BitVec.ofNat 32 (i 1).val) 8#32) (BitVec.ofNat 32 (n / 8)))).toNat,
    8 * g + n % 8]

/-- The scale's row, counted: eight rows of scales per grid column, and one per row of tiles. -/
theorem scaleOff_row (i : grid1.Coords) (g n : ℕ) (hn : n < 64) : scaleOff i g n 0 = 8 * (i 1).val + n / 8 := by
  have hi : (i 1).val < 4 := (i 1).isLt
  have hd : n / 8 < 8 := by omega
  show (BitVec.ofNat 32 (i 1).val * 8#32 + BitVec.ofNat 32 (n / 8)).toNat = _
  simp only [BitVec.toNat_add, BitVec.toNat_mul, BitVec.toNat_ofNat]
  omega

/-- A scale's place is inside the table. -/
theorem scaleOff_inb (i : grid1.Coords) {g n : ℕ} (hg : g < 7) (hn : n < 64) :
    ∀ a, scaleOff i g n a + S1x1.size a ≤ S32x56.size a := fun a => by
  have hi : (i 1).val < 4 := (i 1).isLt
  match a with
  | ⟨0, _⟩ => show scaleOff i g n 0 + 1 ≤ 32; rw [scaleOff_row i g n hn]; omega
  | ⟨1, _⟩ => show 8 * g + n % 8 + 1 ≤ 56; omega

/-- The `n`-th weight tile of chunk `g` is inside the block of weights. -/
theorem tile_inb {g n : ℕ} (hg : g < 7) (hn : n < 64) :
    ∀ a, (![128 * (n / 8), 1024 * g + 128 * (n % 8)] : Fin 2 → ℕ) a + S128x128.size a ≤ S1024x7168.size a := fun a => by
  match a with
  | ⟨0, _⟩ => show 128 * (n / 8) + 128 ≤ 1024; omega
  | ⟨1, _⟩ => show 1024 * g + 128 * (n % 8) + 128 ≤ 7168; omega

/-- The place of the `n`-th tile in plane `g % 2` is inside the scratch buffer. -/
theorem place_inb (g : ℕ) {n : ℕ} (hn : n < 64) :
    ∀ a, (![g % 2, 128 * (n / 8), 128 * (n % 8)] : Fin 3 → ℕ) a + S1x128x128.size a ≤ S2x1024x1024.size a := fun a => by
  match a with
  | ⟨0, _⟩ => show g % 2 + 1 ≤ 2; omega
  | ⟨1, _⟩ => show 128 * (n / 8) + 128 ≤ 1024; omega
  | ⟨2, _⟩ => show 128 * (n % 8) + 128 ≤ 1024; omega

/-- A whole plane is inside the scratch buffer. -/
theorem plane_inb (g : ℕ) :
    ∀ a, (![g % 2, 0, 0] : Fin 3 → ℕ) a + S1x1024x1024.size a ≤ S2x1024x1024.size a := fun a => by
  match a with
  | ⟨0, _⟩ => show g % 2 + 1 ≤ 2; omega
  | ⟨1, _⟩ => show 0 + 1024 ≤ 1024; omega
  | ⟨2, _⟩ => show 0 + 1024 ≤ 1024; omega

/-- Chunk `g` of the activations is inside their block. -/
theorem chunk_inb {g : ℕ} (hg : g < 7) :
    ∀ a, (![0, 1024 * g] : Fin 2 → ℕ) a + S1024x1024.size a ≤ S1024x7168.size a := fun a => by
  match a with
  | ⟨0, _⟩ => show 0 + 1024 ≤ 1024; omega
  | ⟨1, _⟩ => show 1024 * g + 1024 ≤ 7168; omega

/-- The place of the `n`-th tile in plane `g % 2` of the scratch buffer. -/
abbrev place (g : ℕ) {n : ℕ} (hn : n < 64) : Rect S2x1024x1024 :=
  Rect.unit (s := S2x1024x1024) ![g % 2, 128 * (n / 8), 128 * (n % 8)] S1x128x128.size (place_inb g hn)

/-- The `n`-th weight tile of chunk `g`, times its scale. -/
def tile (i : grid1.Coords) (x0 : Vec F S32x56 .f32) (x2 : Vec F S1024x7168 .fp8e4m3) {g n : ℕ} (hg : g < 7) (hn : n < 64) :
    FVec F S1x128x128 .bf16 :=
  k1_pay3 (View.ld x2 (Rect.unit (s := S1024x7168) ![128 * (n / 8), 1024 * g + 128 * (n % 8)] S128x128.size (tile_inb hg hn)))
    (View.ld x0 (Rect.unit (s := S32x56) (scaleOff i g n) S1x1.size (scaleOff_inb i hg hn)) (Shape.Idx.first (s := S1x1) (by decide)))

/-- The first `n` tiles of chunk `g` written over the earlier writes `L`, the last write first. -/
def tilesOn (i : grid1.Coords) (x0 : Vec F S32x56 .f32) (x2 : Vec F S1024x7168 .fp8e4m3) {g : ℕ} (hg : g < 7)
    (L : List (View.Piece (Elt F) S2x1024x1024 .bf16)) : (n : ℕ) → n ≤ 64 → List (View.Piece (Elt F) S2x1024x1024 .bf16)
  | 0, _ => L
  | n + 1, h => ⟨place g (n := n) h, tile i x0 x2 hg h⟩ :: tilesOn i x0 x2 hg L n (Nat.le_of_succ_le h)

/-- The scratch buffer's writes through chunk `g`. -/
def writes (i : grid1.Coords) (x0 : Vec F S32x56 .f32) (x2 : Vec F S1024x7168 .fp8e4m3) : (g : ℕ) → g < 7 →
    List (View.Piece (Elt F) S2x1024x1024 .bf16)
  | 0, h => tilesOn i x0 x2 h [] 64 (Nat.le_refl 64)
  | g + 1, h => tilesOn i x0 x2 h (writes i x0 x2 g (Nat.lt_of_succ_lt h)) 64 (Nat.le_refl 64)

/-- Plane `g % 2` of the scratch buffer. -/
abbrev planeRect (g : ℕ) : Rect S2x1024x1024 :=
  Rect.unit (s := S2x1024x1024) ![g % 2, 0, 0] S1x1024x1024.size (plane_inb g)

/-- What is read back of plane `g % 2` once chunk `g` is written. -/
def plane (i : grid1.Coords) (x0 : Vec F S32x56 .f32) (x2 : Vec F S1024x7168 .fp8e4m3) (g : ℕ) (hg : g < 7) :
    Vec F S1x1024x1024 .bf16 :=
  fun j => View.canon (writes i x0 x2 g hg) ((planeRect g).toLoadRect.idx j)

/-- Chunk `g` of the activations. -/
def chunk (x1 : Vec F S1024x7168 .bf16) {g : ℕ} (hg : g < 7) : Vec F S1024x1024 .bf16 :=
  View.ld x1 (Rect.unit (s := S1024x7168) ![0, 1024 * g] S1024x1024.size (chunk_inb hg))

/-- The running sum through chunk `g`, the planes read back being `P`. -/
def sums (x1 : Vec F S1024x7168 .bf16) (P : (g : ℕ) → g < 7 → Vec F S1x1024x1024 .bf16) :
    (g : ℕ) → g < 7 → FVec F S1024x1024 .f32
  | 0, h => k1_pay88 (chunk x1 h) (P 0 h)
  | g + 1, h => k1_pay499 (sums x1 P g (Nat.lt_of_succ_lt h)) (chunk x1 h) (P (g + 1) h)

variable (c : Dev nD) (i : grid1.Coords) (arg2 : Memref sig .tc .smem S32x56 .f32) (harg2 : arg2.IsWhole)
  (arg3 : Memref sig .tc .vmem S1024x7168 .bf16) (harg3 : arg3.IsWhole)
  (arg4 : Memref sig .tc .vmem S1024x7168 .fp8e4m3) (harg4 : arg4.IsWhole)
  (arg5 : Memref sig .tc .vmem S1024x1024 .bf16) (harg5 : arg5.IsWhole)
  (arg6 : Memref sig .tc .vmem S2x1024x1024 .bf16) (harg6 : arg6.IsWhole)
  (x0 : Vec F S32x56 .f32) (x1 : Vec F S1024x7168 .bf16) (x2 : Vec F S1024x7168 .fp8e4m3)

/-- The block's one store holds the last running sum, each plane read back through the scratch buffer's view. -/
theorem run_pieces :
    (kernelRun1_A c i arg2 harg2 arg3 harg3 arg4 harg4 arg5 harg5 arg6 harg6 x0 x1 x2).1
      = [⟨Rect.unit (s := S1024x1024) ![0, 0] S1024x1024.size inb_S1024x1024_S1024x1024_0_0,
          truncf .bf16 (sums (arg3.view.read (Elt F) (harg3.unread x1)) (fun g hg => arg6.view.readCov
            (writes i (arg2.view.read (Elt F) (harg2.unread x0)) (arg4.view.read (Elt F) (harg4.unread x2)) g hg)
            (planeRect g).toLoadRect) 6 (by decide)) bitsLt_bf16_f32⟩] := rfl

/-- What the block leaves in the output's buffer: the last running sum. -/
theorem out_eq :
    out1_A_3 c i arg2 harg2 arg3 harg3 arg4 harg4 arg5 harg5 arg6 harg6 x0 x1 x2
      = truncf .bf16 (sums x1 (plane i x0 x2) 6 (by decide)) bitsLt_bf16_f32 := by
  unfold out1_A_3
  rw [View.read_writes_eq_canon _ _ _ (cover1_A_3 c _ _ _ _ _ _ _ _ _ _ _ _ _ _), run_pieces]
  simp only [harg2.read_unread, harg3.read_unread, harg4.read_unread, View.readCov_eq_canon']
  exact View.canon_unit_zero (by decide) _ _

end Cert.KernelIdeal.Gemm

end
-- ==== Proof.GemmValue.lean ====
/-
  The value of one block of the product kernel over the extended reals: entry (a, b) is the sum, over the 7168 columns,
  of the activation at (a, k) times the dequantized weight at (b, k).
-/
module

public import proofs.«01_k».proof.Proof.GemmForm
public import Idealize.ShloMosaic.Lib.MatmulPlain
public import Idealize.ShloMosaic.Lib.ValueLayout
public import Idealize.ShloMosaic.Lib.Pipeline.ValueKit

@[expose] public section

noncomputable section

namespace Cert.KernelIdeal.Gemm

open Cert.KernelIdeal Cert.KernelIdeal.Gen Idealize.ShloMosaic.TcCoe Idealize.ShloMosaic.ValueIdx
open Idealize.ShloMosaic hiding ix2 ix3 truncf_apply extf_apply mulf_apply constant_apply

variable (i : grid1.Coords) (x0 : Vec Ideal S32x56 .f32) (x1 : Vec Ideal S1024x7168 .bf16)
  (x2 : Vec Ideal S1024x7168 .fp8e4m3)

/-- The weight at row `r`, column `k` of the block, times the scale of the 128 × 128 tile it lies in. -/
def blockW (r : Fin 1024) (k : Fin 7168) : EReal :=
  have hi : (i 1).val < 4 := (i 1).isLt
  (x2 (ix2 r k) : EReal) * (x0 (ix2 ⟨8 * (i 1).val + r.val / 128, by omega⟩ ⟨k.val / 128, by omega⟩) : EReal)

/-- A tile's entry is the weight there times the tile's scale. -/
theorem tile_apply {g n : ℕ} (hg : g < 7) (hn : n < 64) (a b : Fin 128) :
    tile (F := Ideal) i x0 x2 hg hn (ix3 (0 : Fin 1) a b)
      = blockW i x0 x2 ⟨128 * (n / 8) + a.val, by omega⟩ ⟨1024 * g + 128 * (n % 8) + b.val, by omega⟩ := by
  unfold tile k1_pay3 blockW
  refine (shapeCast_ab_1ab_apply _ _ _ _ _).trans ?_
  rw [mulf_apply]
  refine congrArg₂ (fun u v : EReal => u * v) ?_ ?_
  · rw [extf_apply]
    refine (congrFun (shapeCast_self _ _) _).trans ?_
    refine View.ld_unit_apply_of _ _ _ _ _ _ fun d => ?_
    match d with
    | ⟨0, _⟩ => rfl
    | ⟨1, _⟩ => rfl
  · refine View.ld_unit_apply_of _ _ _ _ _ _ fun d => ?_
    match d with
    | ⟨0, _⟩ =>
      show 8 * (i 1).val + (128 * (n / 8) + a.val) / 128 = scaleOff i g n 0 + 0
      rw [scaleOff_row i g n hn]; omega
    | ⟨1, _⟩ => show (1024 * g + 128 * (n % 8) + b.val) / 128 = 8 * g + n % 8 + 0; omega

/-- Once the first `n` tiles of a chunk are written, an entry of one of them holds its dequantized weight. -/
theorem tilesOn_apply {g : ℕ} (hg : g < 7) (L : List (View.Piece (Elt Ideal) S2x1024x1024 .bf16)) (r k : Fin 1024) (p : Fin 2)
    (hp : p.val = g % 2) : (n : ℕ) → (h : n ≤ 64) → 8 * (r.val / 128) + k.val / 128 < n →
    View.canon (tilesOn (F := Ideal) i x0 x2 hg L n h) (ix3 p r k) = blockW i x0 x2 r ⟨1024 * g + k.val, by omega⟩
  | 0, _, hlt => absurd hlt (Nat.not_lt_zero _)
  | n + 1, h, hlt => by
    rw [tilesOn]
    by_cases hn : 8 * (r.val / 128) + k.val / 128 = n
    · have e : (ix3 p r k : S2x1024x1024.Idx) = (place g (n := n) h).emb
          (ix3 (0 : Fin 1) (⟨r.val % 128, by omega⟩ : Fin 128) (⟨k.val % 128, by omega⟩ : Fin 128)) := by
        funext d
        apply Fin.ext
        rw [ValueKit.rect_emb_unit_val]
        match d with
        | ⟨0, _⟩ => show p.val = g % 2 + 0; omega
        | ⟨1, _⟩ => show r.val = 128 * (n / 8) + r.val % 128; omega
        | ⟨2, _⟩ => show k.val = 128 * (n % 8) + k.val % 128; omega
      rw [e, View.canon_cons_emb, tile_apply]
      congr 1 <;> apply Fin.ext
      · show 128 * (n / 8) + r.val % 128 = r.val; omega
      · show 1024 * g + 128 * (n % 8) + k.val % 128 = 1024 * g + k.val; omega
    · rw [View.canon_cons_of_not_mem]
      · exact tilesOn_apply hg L r k p hp n _ (by omega)
      · intro hm
        have hm := (Rect.mem_set_unit (inb := place_inb g (n := n) h)).mp hm
        have h1 : 128 * (n / 8) ≤ r.val ∧ r.val < 128 * (n / 8) + 128 := hm 1
        have h2 : 128 * (n % 8) ≤ k.val ∧ k.val < 128 * (n % 8) + 128 := hm 2
        omega

/-- The plane read back for chunk `g` holds that chunk's dequantized weights. -/
theorem plane_apply (g : ℕ) (hg : g < 7) (r k : Fin 1024) :
    plane (F := Ideal) i x0 x2 g hg (ix3 (0 : Fin 1) r k) = blockW i x0 x2 r ⟨1024 * g + k.val, by omega⟩ := by
  have e : (planeRect g).toLoadRect.idx (ix3 (0 : Fin 1) r k) = (ix3 (⟨g % 2, by omega⟩ : Fin 2) r k : S2x1024x1024.Idx) := by
    funext d
    apply Fin.ext
    refine (Rect.idx_unit_val _ _ _ _ d).trans ?_
    match d with
    | ⟨0, _⟩ => show g % 2 + 0 = g % 2; omega
    | ⟨1, _⟩ => show 0 + r.val = r.val; omega
    | ⟨2, _⟩ => show 0 + k.val = k.val; omega
  show View.canon (writes i x0 x2 g hg) _ = _
  rw [e]
  cases g with
  | zero => exact tilesOn_apply i x0 x2 hg [] r k _ rfl 64 _ (by omega)
  | succ g => exact tilesOn_apply i x0 x2 hg _ r k _ rfl 64 _ (by omega)

/-- An entry of one chunk's product: the sum over the chunk's columns. -/
theorem dot_apply (x : FVec Ideal S1024x1024 .bf16) (y : Vec Ideal S1x1024x1024 .bf16) (a b : Fin 1024) :
    k1_pay88 (F := Ideal) x y (ix2 a b) = ∑ k : Fin 1024, (x (ix2 a k) : EReal) * (y (ix3 (0 : Fin 1) b k) : EReal) := by
  unfold k1_pay88
  refine (Ideal.matmul_transposedRhs_apply (M := 1024) (K := 1024) (N := 1024) none _ _ _ a b).trans ?_
  rw [constant_apply]
  refine (congrArg (· + _) Ideal.ofBits_zero_f32).trans ((zero_add _).trans ?_)
  refine Finset.sum_congr rfl fun k _ => congrArg₂ (fun u v : EReal => u * v) ?_ ?_
  · exact congrFun (shapeCast_self _ _) _
  · exact shapeCast_1ab_ab_apply _ _ _ _

/-- A later chunk adds its product to the running sum. -/
theorem addDot_eq (acc : FVec Ideal S1024x1024 .f32) (x : FVec Ideal S1024x1024 .bf16) (y : Vec Ideal S1x1024x1024 .bf16)
    (j : S1024x1024.Idx) :
    k1_pay499 (F := Ideal) acc x y j = (acc j : EReal) + (k1_pay88 (F := Ideal) x y j : EReal) := rfl

/-- A chunk's entry is the activation at the chunk's column. -/
theorem chunk_apply {g : ℕ} (hg : g < 7) (a k : Fin 1024) :
    chunk (F := Ideal) x1 hg (ix2 a k) = x1 (ix2 a ⟨1024 * g + k.val, by omega⟩) :=
  View.ld_unit_apply_of _ _ _ _ _ _ fun d => by
    match d with
    | ⟨0, _⟩ => show a.val = 0 + a.val; omega
    | ⟨1, _⟩ => rfl

/-- A function of the columns, zero past the last. -/
def extended (f : Fin 7168 → EReal) (k : ℕ) : EReal := if h : k < 7168 then f ⟨k, h⟩ else 0

/-- The sum over chunk `g`'s columns, as the sum over a range. -/
theorem sum_chunk (f : Fin 7168 → EReal) {g : ℕ} (hg : g < 7) :
    ∑ k : Fin 1024, f ⟨1024 * g + k.val, by omega⟩ = ∑ k ∈ Finset.range 1024, extended f (1024 * g + k) := by
  rw [Finset.sum_range]
  refine Finset.sum_congr rfl fun k _ => ?_
  rw [extended, dif_pos]

/-- The running sum through chunk `g` is the sum over the columns of the chunks up to it. -/
theorem sums_apply (a b : Fin 1024) : (g : ℕ) → (hg : g < 7) →
    sums (F := Ideal) x1 (plane i x0 x2) g hg (ix2 a b)
      = ∑ k ∈ Finset.range (1024 * (g + 1)), extended (fun k => (x1 (ix2 a k) : EReal) * blockW i x0 x2 b k) k
  | 0, hg => by
    rw [sums, dot_apply]
    simp only [chunk_apply, plane_apply]
    rw [sum_chunk (fun k => (x1 (ix2 a k) : EReal) * blockW i x0 x2 b k) hg]
    simp only [Nat.mul_zero, Nat.zero_add, Nat.mul_one]
  | g + 1, hg => by
    rw [sums, addDot_eq, sums_apply a b g, dot_apply]
    simp only [chunk_apply, plane_apply]
    rw [sum_chunk (fun k => (x1 (ix2 a k) : EReal) * blockW i x0 x2 b k) hg, Nat.mul_add 1024 (g + 1) 1, Nat.mul_one,
      Finset.sum_range_add]

/-- The last running sum is the sum over all columns. -/
theorem sums_last (a b : Fin 1024) :
    sums (F := Ideal) x1 (plane i x0 x2) 6 (by decide) (ix2 a b)
      = ∑ k : Fin 7168, (x1 (ix2 a k) : EReal) * blockW i x0 x2 b k := by
  rw [sums_apply, Finset.sum_range]
  refine Finset.sum_congr rfl fun k _ => ?_
  rw [extended, dif_pos k.isLt]

/-- What the block leaves in the output's buffer, at an index. -/
theorem out_apply (c : Dev nD) (arg2 : Memref sig .tc .smem S32x56 .f32) (harg2 : arg2.IsWhole)
    (arg3 : Memref sig .tc .vmem S1024x7168 .bf16) (harg3 : arg3.IsWhole)
    (arg4 : Memref sig .tc .vmem S1024x7168 .fp8e4m3) (harg4 : arg4.IsWhole)
    (arg5 : Memref sig .tc .vmem S1024x1024 .bf16) (harg5 : arg5.IsWhole)
    (arg6 : Memref sig .tc .vmem S2x1024x1024 .bf16) (harg6 : arg6.IsWhole) (a b : Fin 1024) :
    out1_A_3 c i arg2 harg2 arg3 harg3 arg4 harg4 arg5 harg5 arg6 harg6 x0 x1 x2 (ix2 a b)
      = ∑ k : Fin 7168, (x1 (ix2 a k) : EReal) * blockW i x0 x2 b k := by
  rw [out_eq, truncf_apply]
  exact sums_last i x0 x1 x2 a b

end Cert.KernelIdeal.Gemm

end
-- ==== Proof.GemmArray.lean ====
/-
  The array the product kernel leaves: its 4 × 4 blocks of 1024 × 1024 cover the result, so every entry is the sum over
  all columns of the activation in its row times the dequantized weight in its column.
-/
module

public import proofs.«01_k».proof.Proof.GemmValue
public import proofs.«01_k».proof.Proof.Spec
public import proofs.«01_k».proof.Proof.Gen.KernelIdeal.Points

@[expose] public section

set_option maxRecDepth 16384

noncomputable section

namespace Cert.KernelIdeal.Gemm

open Cert.KernelIdeal Cert.KernelIdeal.Gen Cert.GroupGemm Idealize.ShloMosaic.TcCoe Idealize.ShloMosaic.ValueIdx
open Idealize.ShloMosaic hiding ix1 ix2 ix3 eq_ix2

/-- There are sixteen grid points. -/
theorem points : cfg1.N = 16 := (by decide +kernel : grid1.N = 16)

/-- Grid point `t` takes the whole table of scales, block `t / 4` of the activations' rows and block `t % 4` of the
    weights' rows, and writes the block of the result at those two. -/
theorem index : ∀ t : Fin cfg1.N, (win1_0.index t (0 : Fin 2) = 0 ∧ win1_0.index t (1 : Fin 2) = 0)
    ∧ (win1_1.index t (0 : Fin 2) = t.val / 4 ∧ win1_1.index t (1 : Fin 2) = 0)
    ∧ (win1_2.index t (0 : Fin 2) = t.val % 4 ∧ win1_2.index t (1 : Fin 2) = 0)
    ∧ (win1_3.index t (0 : Fin 2) = t.val / 4 ∧ win1_3.index t (1 : Fin 2) = t.val % 4)
    ∧ (grid1.coords t 1).val = t.val % 4 :=
  (by decide +kernel : ∀ t : Fin grid1.N, _)

/-- The block of scales is the whole table. -/
theorem emb_scales (t : Fin cfg1.N) (a : Fin 32) (b : Fin 56) :
    ((cfg1.win 0).blk t).view.emb (ix2 a b) = (ix2 a b : S32x56.Idx) := by
  obtain ⟨⟨e0, e1⟩, -⟩ := index t
  funext d; apply Fin.ext
  match d with
  | ⟨0, _⟩ => show win1_0.index t (0 : Fin 2) * 32 + 1 * a.val = a.val; omega
  | ⟨1, _⟩ => show win1_0.index t (1 : Fin 2) * 56 + 1 * b.val = b.val; omega

/-- Where an entry of the block of activations lies in the array. -/
theorem emb_acts (t : Fin cfg1.N) (a : Fin 1024) (k : Fin 7168) (R : Fin 4096) (hR : R.val = 1024 * (t.val / 4) + a.val) :
    ((cfg1.win 1).blk t).view.emb (ix2 a k) = (ix2 R k : S4096x7168.Idx) := by
  obtain ⟨-, ⟨e0, e1⟩, -⟩ := index t
  funext d; apply Fin.ext
  match d with
  | ⟨0, _⟩ => show win1_1.index t (0 : Fin 2) * 1024 + 1 * a.val = R.val; omega
  | ⟨1, _⟩ => show win1_1.index t (1 : Fin 2) * 7168 + 1 * k.val = k.val; omega

/-- Where an entry of the block of weights lies in the array. -/
theorem emb_weights (t : Fin cfg1.N) (b : Fin 1024) (k : Fin 7168) (C : Fin 4096) (hC : C.val = 1024 * (t.val % 4) + b.val) :
    ((cfg1.win 2).blk t).view.emb (ix2 b k) = (ix2 C k : S4096x7168.Idx) := by
  obtain ⟨-, -, ⟨e0, e1⟩, -⟩ := index t
  funext d; apply Fin.ext
  match d with
  | ⟨0, _⟩ => show win1_2.index t (0 : Fin 2) * 1024 + 1 * b.val = C.val; omega
  | ⟨1, _⟩ => show win1_2.index t (1 : Fin 2) * 7168 + 1 * k.val = k.val; omega

/-- Where an entry of the block of the result lies in the array. -/
theorem emb_out (t : Fin cfg1.N) (a b : Fin 1024) (R C : Fin 4096) (hR : R.val = 1024 * (t.val / 4) + a.val)
    (hC : C.val = 1024 * (t.val % 4) + b.val) :
    ((cfg1.win 3).blk t).view.emb (ix2 a b) = (ix2 R C : S4096x4096.Idx) := by
  obtain ⟨-, -, -, ⟨e0, e1⟩, -⟩ := index t
  funext d; apply Fin.ext
  match d with
  | ⟨0, _⟩ => show win1_3.index t (0 : Fin 2) * 1024 + 1 * a.val = R.val; omega
  | ⟨1, _⟩ => show win1_3.index t (1 : Fin 2) * 1024 + 1 * b.val = C.val; omega

/-- Rows of activations against rows of dequantized weights. -/
def rowProduct (X W : S4096x7168.Idx → EReal) (S : S32x56.Idx → EReal) : S4096x4096.Idx → EReal :=
  fun j => ∑ k : Fin 7168, X (ix2 (j 0) k) * wDq W S (j 1) k

variable (V : (c : Dev nD) → (b : Ref sig .tc) → Buf (Elt Ideal) ((c : Thread nD τ).loc b)) (c : Dev nD)

/-- A block's dequantized weight is the array's. -/
theorem blockW_eq (t : Fin cfg1.N) (b : Fin 1024) (k : Fin 7168) (C : Fin 4096) (hC : C.val = 1024 * (t.val % 4) + b.val) :
    blockW (grid1.coords t) (iblk1 (F := Ideal) V c 0 t) (iblk1 (F := Ideal) V c 2 t) b k
      = wDq (V c main_v1) (V c main_arg2) C k := by
  have hg : (grid1.coords t 1).val = t.val % 4 := (index t).2.2.2.2
  refine congrArg₂ (fun u v : EReal => u * v) (congrArg (V c main_v1) (emb_weights t b k C hC)) ?_
  refine (congrArg (V c main_arg2) (emb_scales t _ _)).trans (congrArg (fun q : Fin 32 => V c main_arg2 (ix2 q _)) (Fin.ext ?_))
  show 8 * (grid1.coords t 1).val + b.val / 128 = C.val / 128
  omega

/-- What a grid point writes back is its block of the product. -/
theorem flushed_eq (t : Fin cfg1.N) : (dat1 (F := Ideal) V c).flushed 3 t
    = ((cfg1.win 3).blk t).view.read (Elt Ideal) (rowProduct (V c main_v0) (V c main_v1) (V c main_arg2)) := by
  show (cfg1.win 3).cut (grid1.coords t) ((dat1 V c).after 3 t) = _
  rw [after1_3]
  have ht : t.val < 16 := points ▸ t.isLt
  funext (j : S1024x1024.Idx)
  obtain ⟨a, b, rfl⟩ : ∃ a b : Fin 1024, j = ix2 a b := ⟨j 0, j 1, eq_ix2 j⟩
  show outsAt1 (F := Ideal) V c t (ix2 a b)
    = rowProduct (V c main_v0) (V c main_v1) (V c main_arg2) (((cfg1.win 3).blk t).view.emb (ix2 a b))
  refine Eq.trans ?_ (congrArg (rowProduct (V c main_v0) (V c main_v1) (V c main_arg2))
    (emb_out t a b ⟨1024 * (t.val / 4) + a.val, by omega⟩ ⟨1024 * (t.val % 4) + b.val, by omega⟩ rfl rfl)).symm
  unfold outsAt1
  refine (out_apply (grid1.coords t) _ _ _ c _ _ _ _ _ _ _ _ _ _ a b).trans ?_
  refine Finset.sum_congr rfl fun k _ => congrArg₂ (fun u v : EReal => u * v) ?_ (blockW_eq V c t b k _ rfl)
  exact congrArg (V c main_v0) (emb_acts t a k _ rfl)

/-- Every entry of the array is in some point's block. -/
theorem covered (i : S4096x4096.Idx) : ∃ t : Fin cfg1.N, (cfg1.win 3).flush t = true ∧ i ∈ ((cfg1.win 3).blk t).view.set := by
  obtain ⟨R, C, rfl⟩ : ∃ R C : Fin 4096, i = ix2 R C := ⟨i 0, i 1, eq_ix2 i⟩
  have ht : 4 * (R.val / 1024) + C.val / 1024 < cfg1.N := by rw [points]; omega
  refine ⟨⟨4 * (R.val / 1024) + C.val / 1024, ht⟩, flush1_3 _, ?_⟩
  have h := ((cfg1.win 3).blk ⟨4 * (R.val / 1024) + C.val / 1024, ht⟩).view.emb_mem_set
    (ix2 (⟨R.val % 1024, by omega⟩ : Fin 1024) (⟨C.val % 1024, by omega⟩ : Fin 1024))
  rwa [emb_out _ _ _ R C
    (by show R.val = 1024 * ((4 * (R.val / 1024) + C.val / 1024) / 4) + R.val % 1024; omega)
    (by show C.val = 1024 * ((4 * (R.val / 1024) + C.val / 1024) % 4) + C.val % 1024; omega)] at h

/-- The array the kernel leaves. -/
theorem array : (dat1 (F := Ideal) V c).arrAt 3 cfg1.N = rowProduct (V c main_v0) (V c main_v1) (V c main_arg2) :=
  (dat1 V c).arrAt_eq_of_cover 3 _ (fun t _ => flushed_eq V c t) covered

end Cert.KernelIdeal.Gemm

end
-- ==== Proof.KernelRun.lean ====
/-
  The kernel's whole run over the extended reals: it ends with its result at the product of the dequantized activations
  and the dequantized weights, and with its arguments unchanged.
-/
module

public import proofs.«01_k».proof.Proof.QuantArray
public import proofs.«01_k».proof.Proof.GemmArray

@[expose] public section

set_option maxRecDepth 16384

noncomputable section

namespace Cert.KernelIdeal.Hand

open Cert.KernelIdeal Cert.KernelIdeal.Gen Cert.GroupGemm Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo Idealize.ShloMosaic.Rounds
open Idealize.ShloMosaic.Pipeline (Dat cellOf)

section Run

variable {F : FTy → Type} [FloatOps F]
variable (m : (ℓ : Loc nD τ sig) → Buf (Elt F) ℓ) (ρ : Dev nD → PrngReg)

-- the launch lemma's implicit arguments are found by unifying its conclusion with the goal
set_option backward.isDefEq.respectTransparency.types false in
/-- The run ends with the result at the array the second launch leaves, and the arguments unchanged. -/
theorem run_arrays : θ_run defs (onTc (τ := τ) (main (F := F))) ⟨m, fun _ => 0, ρ⟩ fun r => ∀ c : Dev nD,
      r.2.mem ((c : Thread nD τ).loc main_v2) = (dat1 (V2 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Run

variable (m : (ℓ : Loc nD τ sig) → Buf (Elt Ideal) ℓ) (ρ : Dev nD → PrngReg) (c : Dev nD)

/-- The product kernel finds the dequantized activations in its first operand. -/
theorem entry_acts : V2 (F := Ideal) m ρ c main_v0 = Quant.dequantized (m ((c : Thread nD τ).loc main_arg0)) :=
  (W2_of m ρ c main_v0 (by decide)).trans ((W1_arr m ρ c 1).trans (Quant.array (V0 m ρ) c))

/-- … the weights, cast, in its second … -/
theorem entry_weights : V2 (F := Ideal) m ρ c main_v1 = m ((c : Thread nD τ).loc main_arg1) := by
  refine Eq.trans ?_ (W1_args m ρ c main_arg1 (by decide))
  show after hostOps1 (W1 m ρ c) (Proc.devRef .tc main_v1) = _
  after_results <;> rfl

/-- … and the table of scales in its third. -/
theorem entry_scales : V2 (F := Ideal) m ρ c main_arg2 = m ((c : Thread nD τ).loc main_arg2) :=
  W2_args m ρ c main_arg2 (by decide)

/-- The result of the run is the product. -/
theorem result_eq : (dat1 (V2 (F := Ideal) m ρ) c).arrAt 3 cfg1.N
    = product (m ((c : Thread nD τ).loc main_arg0)) (m ((c : Thread nD τ).loc main_arg1)) (m ((c : Thread nD τ).loc main_arg2)) := by
  rw [Gemm.array, entry_acts, entry_weights, entry_scales]
  rfl

/-- The run, with the result at the product of the arguments. -/
theorem run : θ_run defs (onTc (τ := τ) (main (F := Ideal))) ⟨m, fun _ => 0, ρ⟩ fun r => ∀ c : Dev nD,
      r.2.mem ((c : Thread nD τ).loc main_v2)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq m ρ c), (h c).2⟩) (run_arrays m ρ)

end Cert.KernelIdeal.Hand

end
-- ==== Proof.RefRegion.lean ====
/-
  What the reference computes before its matrix product: each row group's scale, the activations over their scales, and
  the rounding to fp8 and back, which over the extended reals changes nothing.
-/
module

public import proofs.«01_k».proof.Proof.Gen.ReferenceIdeal.Run
public import proofs.«01_k».proof.Proof.Gen.ReferenceIdeal.Points
public import proofs.«01_k».proof.Proof.Spec
public import Idealize.ShloMosaic.Lib.Pipeline.Value
public import Idealize.ShloMosaic.Lib.IdealHost
public import Idealize.ShloMosaic.PureOps.Ideal.Laws

@[expose] public section

noncomputable section

namespace Cert.ReferenceIdeal.Hand

open Cert.ReferenceIdeal Cert.ReferenceIdeal.Gen Cert.GroupGemm Idealize.ShloMosaic Idealize.ShloMosaic.TcCoe
open Idealize.ShloMosaic.ValueIdx Idealize.ShloMosaic.StableHlo

/-- The activations split into groups of 128 columns. -/
def grouped (x : FVec Ideal S4096x7168 .bf16) : FVec Ideal S4096x56x128 .f32 :=
  shapeCast S4096x56x128 (extf .f32 x bitsLt_bf16_f32) shapeCasts_S4096x7168_S4096x56x128

/-- The groups' scales. -/
def scales (x : FVec Ideal S4096x7168 .bf16) : FVec Ideal S4096x56x1 .f32 :=
  Host.divf (maximumf (broadcastInDim S4096x56x1 ![0, 1] bcast_S4096x56_S4096x56x1_0_1
      (Host.reduce FloatOps.maximumf (Host.absf (grouped x)) (constant S_ .f32 0xFF800000#32)
        reducesTo_S4096x56x128_S4096x56_d2 h_S_))
    (broadcastInDim S4096x56x1 ![] bcast_S_S4096x56x1 (constant S_ .f32 0x2B8CBCCC#32)))
    (broadcastInDim S4096x56x1 ![] bcast_S_S4096x56x1 (constant S_ .f32 0x43E00000#32))

/-- The activations over their groups' scales. -/
def ratios (x : FVec Ideal S4096x7168 .bf16) : FVec Ideal S4096x56x128 .f32 :=
  Host.divf (grouped x) (broadcastInDim S4096x56x128 ![0, 1, 2] bcast_S4096x56x1_S4096x56x128_0_1_2 (scales x))

/-- Entry `l` of group `g` of a row is the row's column `128 * g + l`. -/
theorem grouped_apply (x : FVec Ideal S4096x7168 .bf16) (r : Fin 4096) (g : Fin 56) (l : Fin 128) (k : Fin 7168)
    (hk : k.val = 128 * g.val + l.val) : grouped x (ix3 r g l) = x (ix2 r k) := by
  refine shapeCast_apply _ _ _ (ix2 r k) ?_
  rw [Shape.rowMajor_val_three, Shape.rowMajor_val_two]
  show r.val * 7168 + k.val = (r.val * 56 + g.val) * 128 + l.val
  omega

/-- The group axis is the one reduced. -/
theorem reduces : Shape.Reduces S4096x56x128 [2] S4096x56 := by decide

/-- The groups' largest absolute values. -/
def peaks (v : FVec Ideal S4096x56x128 .f32) : FVec Ideal S4096x56 .f32 :=
  Host.reduce FloatOps.maximumf (Host.absf v) (constant (F := Ideal) S_ .f32 0xFF800000#32)
    reducesTo_S4096x56x128_S4096x56_d2 h_S_

/-- Where the reduced axis's coordinate goes. -/
theorem lift_eq (r : Fin 4096) (g : Fin 56) (l : Fin 128) : reduces.lift (ix2 r g) l = (ix3 r g l : S4096x56x128.Idx) := by
  funext d
  apply Fin.ext
  match d with
  | ⟨0, _⟩ => rfl
  | ⟨1, _⟩ => rfl
  | ⟨2, _⟩ => rfl

/-- An absolute value at an index. -/
theorem hostAbsf_apply (v : FVec Ideal S4096x56x128 .f32) (i : S4096x56x128.Idx) :
    Host.absf v i = max (v i : EReal) (-(v i : EReal)) := rfl

/-- A group's largest absolute value. -/
theorem peaks_apply (v : FVec Ideal S4096x56x128 .f32) (r : Fin 4096) (g : Fin 56) :
    peaks v (ix2 r g) = groupMax fun l => (v (ix3 r g l) : EReal) := by
  unfold peaks groupMax
  rw [Host.reduce_eq_fold_single FloatOps.maximumf (Host.absf v) _ _ reduces h_S_ (ix2 r g), constant_apply]
  have e : (Host.absf v ∘ reduces.lift (ix2 r g) : Fin 128 → EReal)
      = fun l => max (v (ix3 r g l) : EReal) (-(v (ix3 r g l) : EReal)) := by
    funext l
    exact (congrArg (Host.absf v) (lift_eq r g l)).trans (hostAbsf_apply v (ix3 r g l))
  exact congrArg (fun f : Fin 128 → EReal => (Finset.univ : Finset (Fin 128)).fold max (Ideal.ofBits .f32 0xFF800000#32) f) e

/-- The scales from the largest absolute values. -/
def scaled (p : FVec Ideal S4096x56 .f32) : FVec Ideal S4096x56x1 .f32 :=
  Host.divf (maximumf (broadcastInDim S4096x56x1 ![0, 1] bcast_S4096x56_S4096x56x1_0_1 p)
    (broadcastInDim S4096x56x1 ![] bcast_S_S4096x56x1 (constant S_ .f32 0x2B8CBCCC#32)))
    (broadcastInDim S4096x56x1 ![] bcast_S_S4096x56x1 (constant S_ .f32 0x43E00000#32))

/-- A scale from a largest absolute value. -/
theorem scaled_apply (p : FVec Ideal S4096x56 .f32) (r : Fin 4096) (g : Fin 56) :
    scaled p (ix3 r g (0 : Fin 1))
      = Ideal.div (max (p (ix2 r g) : EReal) (Ideal.ofBits .f32 0x2B8CBCCC#32)) (Ideal.ofBits .f32 0x43E00000#32) := by
  have eb : broadcastInDim S4096x56x1 ![0, 1] bcast_S4096x56_S4096x56x1_0_1 p (ix3 r g (0 : Fin 1)) = p (ix2 r g) :=
    broadcastInDim_apply _ _ _ _ (ix2 r g) fun a => by
      match a with
      | ⟨0, _⟩ => rfl
      | ⟨1, _⟩ => rfl
  unfold scaled
  rw [hostDivf_apply, maximumf_apply, eb, broadcastInDim_scalar_apply, broadcastInDim_scalar_apply, constant_apply, constant_apply]

/-- A group's scale, as the reference computes it, is the scale of the group's 128 entries. -/
theorem scales_apply (x : FVec Ideal S4096x7168 .bf16) (r : Fin 4096) (g : Fin 56) (k : Fin 7168) (hk : k.val / 128 = g.val) :
    scales x (ix3 r g (0 : Fin 1)) = groupScale (group (M := 4096) x r k) := by
  have eg : (fun l => (grouped x (ix3 r g l) : EReal)) = group (M := 4096) x r k := by
    funext l
    exact grouped_apply x r g l _ (by show 128 * (k.val / 128) + l.val = _; omega)
  have e : scales x = scaled (peaks (grouped x)) := by unfold scales scaled peaks; rfl
  rw [e, scaled_apply, peaks_apply, eg, groupScale]

/-- A column's entry over its group's scale. -/
theorem ratios_apply (x : FVec Ideal S4096x7168 .bf16) (r : Fin 4096) (g : Fin 56) (l : Fin 128) (k : Fin 7168)
    (hk : k.val = 128 * g.val + l.val) :
    ratios x (ix3 r g l) = Ideal.div (x (ix2 r k)) (groupScale (group (M := 4096) x r k)) := by
  unfold ratios
  rw [hostDivf_apply]
  refine congrArg₂ Ideal.div (grouped_apply x r g l k hk) ?_
  refine (broadcastInDim_apply _ _ _ _ (ix3 r g (0 : Fin 1)) fun a => ?_).trans (scales_apply x r g k (by omega))
  match a with
  | ⟨0, _⟩ => rfl
  | ⟨1, _⟩ => rfl
  | ⟨2, _⟩ => rfl

/-! ## The rounding to fp8 and back -/

/-- The literal zero offsets of a whole access. -/
theorem zeros : (![0, 0, 0] : Fin 3 → ℕ) = fun _ => 0 := funext fun a => by
  match a with
  | ⟨0, _⟩ => rfl
  | ⟨1, _⟩ => rfl
  | ⟨2, _⟩ => rfl

/-- The rounding's one block leaves its input: over the extended reals a cast is the identity. -/
theorem out_id (x : Vec Ideal S4096x56x128 .f32) : out0_1 (F := Ideal) x = x := by
  unfold out0_1
  rw [View.ld_unit_zero zeros, View.canon_unit_zero zeros]
  unfold k0_pay1
  exact shapeCast_self _ _

variable (m : (ℓ : Loc nD τ sig) → Buf (Elt Ideal) ℓ) (c : Dev nD)

/-- What the rounding writes back is its input array. -/
theorem flushed_eq (t : Fin cfg0.N) :
    (dats m 0 c).flushed 1 t = ((cfg0.win 1).blk t).view.read (Elt Ideal) (V m c main_v10) := by
  show (cfg0.win 1).cut (grid0.coords t) ((dats m 0 c).after 1 t) = _
  rw [after0_1, out_id]
  rfl

/-- The rounding's one block is the whole array. -/
theorem covered (i : S4096x56x128.Idx) : ∃ t : Fin cfg0.N, (cfg0.win 1).flush t = true ∧ i ∈ ((cfg0.win 1).blk t).view.set := by
  refine ⟨t0_0, flush0_1 _, ?_⟩
  have h := ((cfg0.win 1).blk t0_0).view.emb_mem_set i
  have e : ((cfg0.win 1).blk t0_0).view.emb i = i := by
    funext a
    apply Fin.ext
    match a with
    | ⟨0, _⟩ => show 0 * 4096 + 1 * (i 0).val = (i 0).val; omega
    | ⟨1, _⟩ => show 0 * 56 + 1 * (i 1).val = (i 1).val; omega
    | ⟨2, _⟩ => show 0 * 128 + 1 * (i 2).val = (i 2).val; omega
  rwa [e] at h

/-- The array the rounding leaves is the one it was given. -/
theorem rounded_eq : Value.reg_main_v11 m c = V m c main_v10 :=
  (dats m 0 c).arrAt_eq_of_cover 1 _ (fun t _ => flushed_eq m c t) covered

set_option maxHeartbeats 1400000 in
/-- The rounding is given the activations over their groups' scales. -/
theorem entry_ratios : V m c main_v10 = ratios (m ((c : Thread nD τ).loc main_arg0)) := by
  show Gen.V0 m c (Proc.devRef .tc main_v10) = _
  simp only [Gen.V0, Gen.hostOps0, List.flatten_cons, List.flatten_nil, List.append_nil, List.cons_append, List.nil_append]
  after_results <;> rfl

end Cert.ReferenceIdeal.Hand

end
-- ==== Proof.RefValue.lean ====
/-
  The reference's run over the extended reals: it ends with its result at the product of the dequantized activations and
  the dequantized weights, and with its arguments unchanged.
-/
module

public import proofs.«01_k».proof.Proof.RefRegion
public import proofs.«01_k».proof.Proof.Gen.ReferenceIdeal.Read

@[expose] public section

noncomputable section

namespace Cert.ReferenceIdeal.Hand

open Cert.ReferenceIdeal Cert.ReferenceIdeal.Gen Cert.ReferenceIdeal.Read Cert.GroupGemm Idealize.ShloMosaic
open Idealize.ShloMosaic.TcCoe Idealize.ShloMosaic.ValueIdx Idealize.SL.Sem

/-- The reference's dequantized activation. -/
theorem acts_apply (x : FVec Ideal S4096x7168 .bf16) (r : Fin 4096) (k : Fin 7168) :
    val_main_v14 (F := Ideal) (ratios x) (scales x) (ix2 r k) = actDq (M := 4096) x r k := by
  have e : idx_main_v14 (ix2 r k) = (ix3 r (⟨k.val / 128, by omega⟩ : Fin 56) (⟨k.val % 128, by omega⟩ : Fin 128)) := by
    funext a
    apply Fin.ext
    match a with
    | ⟨0, _⟩ => show (r.val * 7168 + k.val) / 7168 = r.val; omega
    | ⟨1, _⟩ => show (r.val * 7168 + k.val) / 128 % 56 = k.val / 128; omega
    | ⟨2, _⟩ => show (r.val * 7168 + k.val) % 128 = k.val % 128; omega
  have e' : idx_main_v12 (ix3 r (⟨k.val / 128, by omega⟩ : Fin 56) (⟨k.val % 128, by omega⟩ : Fin 128))
      = (ix3 r (⟨k.val / 128, by omega⟩ : Fin 56) (0 : Fin 1)) := by
    funext a
    match a with
    | ⟨0, _⟩ => rfl
    | ⟨1, _⟩ => rfl
    | ⟨2, _⟩ => rfl
  rw [val_main_v14_apply, e, val_main_v13_apply, val_main_v12_apply, e']
  exact congrArg₂ (fun u v : EReal => u * v)
    (ratios_apply x r _ _ k (by show k.val = 128 * (k.val / 128) + k.val % 128; omega)) (scales_apply x r _ k rfl)

/-- The reference's dequantized weight. -/
theorem weights_apply (w : FVec Ideal S4096x7168 .f32) (s : FVec Ideal S32x56 .f32) (n : Fin 4096) (k : Fin 7168) :
    val_main_v19 (F := Ideal) w s (ix2 n k) = wDq w s n k := by
  have e : idx_main_v19 (ix2 n k) = (ix4 (⟨n.val / 128, by omega⟩ : Fin 32) (⟨n.val % 128, by omega⟩ : Fin 128)
      (⟨k.val / 128, by omega⟩ : Fin 56) (⟨k.val % 128, by omega⟩ : Fin 128)) := by
    funext a
    apply Fin.ext
    match a with
    | ⟨0, _⟩ => show (n.val * 7168 + k.val) / 917504 = n.val / 128; omega
    | ⟨1, _⟩ => show (n.val * 7168 + k.val) / 7168 % 128 = n.val % 128; omega
    | ⟨2, _⟩ => show (n.val * 7168 + k.val) / 128 % 56 = k.val / 128; omega
    | ⟨3, _⟩ => show (n.val * 7168 + k.val) % 128 = k.val % 128; omega
  have ew : idx_main_v15 (ix4 (⟨n.val / 128, by omega⟩ : Fin 32) (⟨n.val % 128, by omega⟩ : Fin 128)
      (⟨k.val / 128, by omega⟩ : Fin 56) (⟨k.val % 128, by omega⟩ : Fin 128)) = (ix2 n k) := by
    funext a
    apply Fin.ext
    match a with
    | ⟨0, _⟩ => show (((n.val / 128 * 128 + n.val % 128) * 56 + k.val / 128) * 128 + k.val % 128) / 7168 = n.val; omega
    | ⟨1, _⟩ => show (((n.val / 128 * 128 + n.val % 128) * 56 + k.val / 128) * 128 + k.val % 128) % 7168 = k.val; omega
  have es : idx_main_v16 (idx_main_v17 (ix4 (⟨n.val / 128, by omega⟩ : Fin 32) (⟨n.val % 128, by omega⟩ : Fin 128)
      (⟨k.val / 128, by omega⟩ : Fin 56) (⟨k.val % 128, by omega⟩ : Fin 128)))
      = (ix2 (⟨n.val / 128, by omega⟩ : Fin 32) (⟨k.val / 128, by omega⟩ : Fin 56)) := by
    funext a
    match a with
    | ⟨0, _⟩ => rfl
    | ⟨1, _⟩ => rfl
  rw [val_main_v19_apply, e, val_main_v18_apply, val_main_v15_apply, ew, val_main_v17_apply, val_main_v16_apply, es]
  rfl

/-- The reference's result, from the rounded ratios and the scales, is the product. -/
theorem value_eq (x : FVec Ideal S4096x7168 .bf16) (w : FVec Ideal S4096x7168 .f32) (s : FVec Ideal S32x56 .f32) :
    val_main_v21 (F := Ideal) w s (ratios x) (scales x) = product x w s := by
  funext (j : S4096x4096.Idx)
  obtain ⟨r, n, rfl⟩ : ∃ r n : Fin 4096, j = ix2 r n := ⟨j 0, j 1, eq_ix2 j⟩
  refine (val_main_v20_apply w s (ratios x) (scales x) (ix2 r n)).trans (Finset.sum_congr rfl fun k _ => ?_)
  have el : lidx_main_v20 (ix2 r n) k = ix2 r k := by
    funext a
    match a with
    | ⟨0, _⟩ => rfl
    | ⟨1, _⟩ => rfl
  have er : ridx_main_v20 (ix2 r n) k = ix2 n k := by
    funext a
    match a with
    | ⟨0, _⟩ => rfl
    | ⟨1, _⟩ => rfl
  rw [el, er]
  exact congrArg₂ (fun u v : EReal => u * v) (acts_apply x r k) (weights_apply w s n k)

variable (m : (ℓ : Loc nD τ sig) → Buf (Elt Ideal) ℓ) (ρ : Dev nD → PrngReg)

/-- What the rounding leaves: the activations over their groups' scales. -/
theorem exit_ratios (c : Dev nD) :
    Value.exitV m c (Proc.devRef .tc main_v11) = ratios (m ((c : Thread nD τ).loc main_arg0)) :=
  (Value.exit_main_v11 m c).trans ((rounded_eq m c).trans (entry_ratios m c))

/-- The scales, computed before the rounding, are still there after it. -/
theorem exit_scales (c : Dev nD) :
    Value.exitV m c (Proc.devRef .tc main_v8) = scales (m ((c : Thread nD τ).loc main_arg0)) :=
  Value.exit_main_v8 m c

/-- The last operations, from what the rounding leaves, give the product. -/
theorem tail_eq (c : Dev nD) :
    StableHlo.after (List.flatten [Gen.hostOps1]) (Value.exitV m c) (Proc.devRef .tc main_v21)
      = product (m ((c : Thread nD τ).loc main_arg0)) (m ((c : Thread nD τ).loc main_arg1)) (m ((c : Thread nD τ).loc main_arg2)) := by
  rw [Value.tail_main_v21, val_main_v21_eq, Value.exit_main_arg1, Value.exit_main_arg2, exit_ratios, exit_scales]
  exact value_eq _ _ _

/-- The run, with the result at the product of the arguments. -/
theorem run : θ_run defs (onTc (τ := τ) (main (F := Ideal))) ⟨m, fun _ => 0, ρ⟩ fun r => ∀ c : Dev nD,
      r.2.mem ((c : Thread nD τ).loc main_v21)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((Value.fin_main_v21 m c).symm.trans (tail_eq m c)), (h c).2⟩)
    (Value.run m ρ)

end Cert.ReferenceIdeal.Hand

end
-- ==== Proof.lean ====
/-
  The claims, assembled. The kernel, its idealized form and the idealized reference each run to the end with their
  arguments unchanged and every semaphore at zero; idealizing keeps the kernel's program; and over the extended reals the
  kernel and the reference end with equal results, both the product of the dequantized activations and weights.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem

/-- From memories that agree on the arguments, the kernel and the reference end with the same result: the product. -/
theorem algebraic : Cert.algebraic_KernelIdeal_ReferenceIdeal := by
  intro m g m' g' _ hagree
  refine ⟨_, Cert.KernelIdeal.Hand.run m g, ?_⟩
  refine (θ_run Cert.ReferenceIdeal.defs _ _).mono (fun _ h c => ⟨(h c).1.trans ?_, (h c).2⟩)
    (Cert.ReferenceIdeal.Hand.run m' g')
  rw [(hagree c).1, (hagree c).2.1, (hagree c).2.2]

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
